-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S8x4x64x1024 : Shape := ⟨4, ![8, 4, 64, 1024]⟩
abbrev S4x8x64x1024 : Shape := ⟨4, ![4, 8, 64, 1024]⟩
abbrev S4x512x1024 : Shape := ⟨3, ![4, 512, 1024]⟩
abbrev S2048x8x128 : Shape := ⟨3, ![2048, 8, 128]⟩
abbrev S2x2x512x1024 : Shape := ⟨4, ![2, 2, 512, 1024]⟩
abbrev S4x2x2x512x2048 : Shape := ⟨5, ![4, 2, 2, 512, 2048]⟩
abbrev S2x512x2048 : Shape := ⟨3, ![2, 512, 2048]⟩
abbrev S4x8x512x128 : Shape := ⟨4, ![4, 8, 512, 128]⟩
abbrev S2x2 : Shape := ⟨2, ![2, 2]⟩
abbrev S4 : Shape := ⟨1, ![4]⟩
abbrev S_ : Shape := ⟨0, ![]⟩
abbrev S1 : Shape := ⟨1, ![1]⟩
abbrev S1x2x2x512x1024 : Shape := ⟨5, ![1, 2, 2, 512, 1024]⟩
abbrev S1x512x1024 : Shape := ⟨3, ![1, 512, 1024]⟩
abbrev S512x1024 : Shape := ⟨2, ![512, 1024]⟩
abbrev S1x1 : Shape := ⟨2, ![1, 1]⟩
abbrev S1x1x512x1024 : Shape := ⟨4, ![1, 1, 512, 1024]⟩
abbrev S1x512x2048 : Shape := ⟨3, ![1, 512, 2048]⟩
abbrev S512x2048 : Shape := ⟨2, ![512, 2048]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1x512x128 : Shape := ⟨4, ![1, 1, 512, 128]⟩
abbrev S1x512x128 : Shape := ⟨3, ![1, 512, 128]⟩
abbrev S1x1x1x512x2048 : Shape := ⟨5, ![1, 1, 1, 512, 2048]⟩

abbrev nBuf : Space → Nat
  | .hbm => 28
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S2048x1024, .f32⟩
  | .hbm, ⟨6, _⟩ => ⟨S8x4x64x1024, .f32⟩
  | .hbm, ⟨7, _⟩ => ⟨S4x8x64x1024, .f32⟩
  | .hbm, ⟨8, _⟩ => ⟨S4x512x1024, .f32⟩
  | .hbm, ⟨9, _⟩ => ⟨S2048x8x128, .f32⟩
  | .hbm, ⟨10, _⟩ => ⟨S2048x1024, .f32⟩
  | .hbm, ⟨11, _⟩ => ⟨S8x4x64x1024, .f32⟩
  | .hbm, ⟨12, _⟩ => ⟨S4x8x64x1024, .f32⟩
  | .hbm, ⟨13, _⟩ => ⟨S4x512x1024, .f32⟩
  | .hbm, ⟨14, _⟩ => ⟨S2x2x512x1024, .f32⟩
  | .hbm, ⟨15, _⟩ => ⟨S2048x8x128, .f32⟩
  | .hbm, ⟨16, _⟩ => ⟨S2048x1024, .f32⟩
  | .hbm, ⟨17, _⟩ => ⟨S8x4x64x1024, .f32⟩
  | .hbm, ⟨18, _⟩ => ⟨S4x8x64x1024, .f32⟩
  | .hbm, ⟨19, _⟩ => ⟨S4x512x1024, .f32⟩
  | .hbm, ⟨20, _⟩ => ⟨S2x2x512x1024, .f32⟩
  | .hbm, ⟨21, _⟩ => ⟨S4x512x1024, .f32⟩
  | .hbm, ⟨22, _⟩ => ⟨S4x2x2x512x2048, .f32⟩
  | .hbm, ⟨23, _⟩ => ⟨S4x8x64x1024, .f32⟩
  | .hbm, ⟨24, _⟩ => ⟨S8x4x64x1024, .f32⟩
  | .hbm, ⟨25, _⟩ => ⟨S2048x1024, .f32⟩
  | .hbm, ⟨26, _⟩ => ⟨S2048x1024, .f32⟩
  | .hbm, ⟨27, _⟩ => ⟨S1x2048x1024, .f32⟩
  | .local _ .vmem, ⟨0, _⟩ => ⟨S4x512x1024, .f32⟩
  | .local _ .vmem, ⟨1, _⟩ => ⟨S1024x1024, .f32⟩
  | .local _ .vmem, ⟨2, _⟩ => ⟨S4x512x1024, .f32⟩
  | .local _ .vmem, ⟨3, _⟩ => ⟨S4x512x1024, .f32⟩
  | .local _ .vmem, ⟨4, _⟩ => ⟨S2x512x2048, .f32⟩
  | .local _ .vmem, ⟨5, _⟩ => ⟨S4x8x512x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let c0_i32_17 : BitVec 32 := 0#32
  let c0_i32_18 : BitVec 32 := 0#32
  let c0_i32_19 : BitVec 32 := 0#32
  ![v2.toNat, 0, 0, 0, 0]
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_14 : BitVec 32 := 1#32
  let v15 : BitVec 32 := Scalar.muli v5 c1_i32_14
  let v16 : BitVec 32 := Scalar.addi c0_i32_15 v15
  v16.toNat
def k0_off2 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  let c0_i32_25 : BitVec 32 := 0#32
  let c0_i32_26 : BitVec 32 := 0#32
  let c1024_i32 : BitVec 32 := 1024#32
  ![v2.toNat, 0, 0, 0, 1024]
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v23 : BitVec 32 := Scalar.muli v5 c1_i32_22
  let v24 : BitVec 32 := Scalar.addi c0_i32_23 v23
  v24.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v31 : BitVec 32 := Scalar.muli v7 c1_i32_29
  let v32 : BitVec 32 := Scalar.addi c0_i32_30 v31
  v32.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v39 : BitVec 32 := Scalar.muli v7 c1_i32_36
  let v40 : BitVec 32 := Scalar.addi c0_i32_37 v39
  v40.toNat
def k0_off3 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_645 : BitVec 32 := 0#32
  let c0_i32_646 : BitVec 32 := 0#32
  let c0_i32_647 : BitVec 32 := 0#32
  let c0_i32_648 : BitVec 32 := 0#32
  ![v5.toNat, 0, 0, 0, 0]
def k0_off4 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_653 : BitVec 32 := 0#32
  let c0_i32_654 : BitVec 32 := 0#32
  let c0_i32_655 : BitVec 32 := 0#32
  let c1024_i32_656 : BitVec 32 := 1024#32
  ![v5.toNat, 0, 0, 0, 1024]
def k0_off5 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_659 : BitVec 32 := 0#32
  let c0_i32_660 : BitVec 32 := 0#32
  let c0_i32_665 : BitVec 32 := 0#32
  let c0_i32_666 : BitVec 32 := 0#32
  ![v5.toNat, 0, 0, 0, 0]
def k0_dev7 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_663 : BitVec 32 := 1#32
  let v763 : BitVec 32 := Scalar.muli v7 c1_i32_663
  let v764 : BitVec 32 := Scalar.addi c0_i32_664 v763
  v764.toNat
def k0_off6 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_671 : BitVec 32 := 0#32
  let c1_i32_672 : BitVec 32 := 1#32
  let c0_i32_677 : BitVec 32 := 0#32
  let c0_i32_678 : BitVec 32 := 0#32
  ![v5.toNat, 0, 1, 0, 0]
def k0_dev8 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_675 : BitVec 32 := 1#32
  let v773 : BitVec 32 := Scalar.muli v7 c1_i32_675
  let v774 : BitVec 32 := Scalar.addi c0_i32_676 v773
  v774.toNat
def k0_off7 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1026 : BitVec 32 := 1#32
  let c0_i32_1027 : BitVec 32 := 0#32
  let c0_i32_1033 : BitVec 32 := 0#32
  let c0_i32_1034 : BitVec 32 := 0#32
  ![v5.toNat, 1, 0, 0, 0]
def k0_off8 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1194 : BitVec 32 := 1#32
  let c1_i32_1195 : BitVec 32 := 1#32
  let c0_i32_1201 : BitVec 32 := 0#32
  let c0_i32_1202 : BitVec 32 := 0#32
  ![v5.toNat, 1, 1, 0, 0]
def k0_off9 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c0_i32_1366 : BitVec 32 := 0#32
  let c0_i32_1367 : BitVec 32 := 0#32
  let c0_i32_1368 : BitVec 32 := 0#32
  let c0_i32_1369 : BitVec 32 := 0#32
  ![v7.toNat, 0, 0, 0, 0]
def k0_off10 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c0_i32_1374 : BitVec 32 := 0#32
  let c0_i32_1375 : BitVec 32 := 0#32
  let c0_i32_1376 : BitVec 32 := 0#32
  let c1024_i32_1377 : BitVec 32 := 1024#32
  ![v7.toNat, 0, 0, 0, 1024]
def k0_off11 (d0 : Dev nD) (c1_i32_3 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1_i32_1380 : BitVec 32 := 1#32
  let c0_i32_1381 : BitVec 32 := 0#32
  let c0_i32_1386 : BitVec 32 := 0#32
  let c0_i32_1387 : BitVec 32 := 0#32
  ![v7.toNat, 1, 0, 0, 0]
def k0_dev9 (d0 : Dev nD) : Nat :=
  let c0_i32_1385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1384 : BitVec 32 := 1#32
  let v1633 : BitVec 32 := Scalar.muli v5 c1_i32_1384
  let v1634 : BitVec 32 := Scalar.addi c0_i32_1385 v1633
  v1634.toNat
def k0_off12 (d0 : Dev nD) (c1_i32_3 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1_i32_1392 : BitVec 32 := 1#32
  let c1_i32_1393 : BitVec 32 := 1#32
  let c0_i32_1398 : BitVec 32 := 0#32
  let c0_i32_1399 : BitVec 32 := 0#32
  ![v7.toNat, 1, 1, 0, 0]
def k0_dev10 (d0 : Dev nD) : Nat :=
  let c0_i32_1397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1396 : BitVec 32 := 1#32
  let v1643 : BitVec 32 := Scalar.muli v5 c1_i32_1396
  let v1644 : BitVec 32 := Scalar.addi c0_i32_1397 v1643
  v1644.toNat
def k0_off13 (d0 : Dev nD) (c1_i32_3 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_1402 : BitVec 32 := 0#32
  let c0_i32_1403 : BitVec 32 := 0#32
  let c0_i32_1409 : BitVec 32 := 0#32
  let c0_i32_1410 : BitVec 32 := 0#32
  ![v7.toNat, 0, 0, 0, 0]
def k0_off14 (d0 : Dev nD) (c1_i32_3 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_1570 : BitVec 32 := 0#32
  let c1_i32_1571 : BitVec 32 := 1#32
  let c0_i32_1577 : BitVec 32 := 0#32
  let c0_i32_1578 : BitVec 32 := 0#32
  ![v7.toNat, 0, 1, 0, 0]
abbrev stage0_0 : Fin 1 → Memref sig .tc .vmem S4x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 137
  | .vmem => 0
  | .smem => 0
  | _ => 0

abbrev hbmTy0_0 (i : Nat) : BufTy := match i % 128 with
  | 0 => ⟨S1x8192x1024, .f32⟩
  | 1 => ⟨S1024x1024, .f32⟩
  | 2 => ⟨S1x8192x8x128, .f32⟩
  | 3 => ⟨S1x8192x8x128, .f32⟩
  | 4 => ⟨S1024x1024, .f32⟩
  | 5 => ⟨S1x8192x1024, .f32⟩
  | 6 => ⟨S1x8192x8x128, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S8192x8192, .i32⟩
  | 48 => ⟨S8192x8192, .i32⟩
  | 49 => ⟨S8192x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192x1, .i32⟩
  | 79 => ⟨S8192x1, .i32⟩
  | 80 => ⟨S_, .i32⟩
  | 81 => ⟨S8192x1, .i32⟩
  | 82 => ⟨S8192x1, .i1⟩
  | 83 => ⟨S_, .i32⟩
  | 84 => ⟨S8192x1, .i32⟩
  | 85 => ⟨S8192x1, .i1⟩
  | 86 => ⟨S_, .i32⟩
  | 87 => ⟨S_, .i1⟩
  | 88 => ⟨S8192x1, .i1⟩
  | 89 => ⟨S8192x1, .i1⟩
  | 90 => ⟨S8192x1, .i1⟩
  | 91 => ⟨S8192x1, .i32⟩
  | 92 => ⟨S8192x1, .i32⟩
  | 93 => ⟨S8192x1, .i32⟩
  | 94 => ⟨S8192x8192, .i32⟩
  | 95 => ⟨S8192x8192, .i32⟩
  | 96 => ⟨S8192x8192, .i1⟩
  | 97 => ⟨S8192x8192, .i1⟩
  | 98 => ⟨S1x8x8192x8192, .f32⟩
  | 99 => ⟨S_, .f32⟩
  | 100 => ⟨S1x8x8192x8192, .f32⟩
  | 101 => ⟨S1x8x8192x8192, .f32⟩
  | 102 => ⟨S1x1x8192x8192, .i1⟩
  | 103 => ⟨S_, .f32⟩
  | 104 => ⟨S_, .f32⟩
  | 105 => ⟨S1x8x8192x8192, .i1⟩
  | 106 => ⟨S1x8x8192x8192, .f32⟩
  | 107 => ⟨S1x8x8192x8192, .f32⟩
  | 108 => ⟨S_, .f32⟩
  | 109 => ⟨S1x8x8192, .f32⟩
  | 110 => ⟨S1x8x8192x1, .f32⟩
  | 111 => ⟨S1x8x8192x8192, .f32⟩
  | 112 => ⟨S1x8x8192x8192, .f32⟩
  | 113 => ⟨S1x8x8192x8192, .f32⟩
  | 114 => ⟨S_, .i1⟩
  | 115 => ⟨S8192, .i1⟩
  | 116 => ⟨S1x1x8192x1, .i1⟩
  | 117 => ⟨S_, .f32⟩
  | 118 => ⟨S1x8x8192, .f32⟩
  | 119 => ⟨S1x8x8192x1, .f32⟩
  | 120 => ⟨S_, .f32⟩
  | 121 => ⟨S_, .f32⟩
  | 122 => ⟨S1x8x8192x1, .i1⟩
  | 123 => ⟨S1x8x8192x1, .f32⟩
  | 124 => ⟨S1x8x8192x1, .f32⟩
  | 125 => ⟨S1x8x8192x8192, .f32⟩
  | 126 => ⟨S1x8x8192x8192, .f32⟩
  | 127 => ⟨S1x1x8192x1, .i1⟩
  | _ => ⟨S1x8192x1024, .f32⟩

abbrev hbmTy0_1 (i : Nat) : BufTy := match i % 128 with
  | 0 => ⟨S_, .f32⟩
  | 1 => ⟨S_, .f32⟩
  | 2 => ⟨S1x8x8192x8192, .i1⟩
  | 3 => ⟨S1x8x8192x8192, .f32⟩
  | 4 => ⟨S1x8x8192x8192, .f32⟩
  | 5 => ⟨S1x8x128x8192, .f32⟩
  | 6 => ⟨S1x8192x8x128, .f32⟩
  | 7 => ⟨S1x8192x1024, .f32⟩
  | 8 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Body.lean ====
/- The kernel's body in a structured form: the exchange of keys and values between neighbours, the
   projection of the queries, and sixteen rounds of attention of one class of rows against one
   block of keys and values, each over eight heads; and that the printed body is this program. -/
module

public import proofs.«01_k».proof.Proof.Gen.KernelIdeal

@[expose] public section

noncomputable section

namespace Cert.KernelIdeal.Struct

open Idealize.ShloMosaic Idealize.SL.Sem
open Cert.KernelIdeal.Gen

variable {F : FTy → Type} [FloatOps F]

/-- The memory a call of the body is given. -/
structure Mem where
  xs : Memref sig .tc .vmem S4x512x1024 .f32
  hxs : xs.IsWhole
  wq : Memref sig .tc .vmem S1024x1024 .f32
  hwq : wq.IsWhole
  kk : Memref sig .tc .hbm S2x2x512x1024 .f32
  hkk : kk.IsWhole
  vv : Memref sig .tc .hbm S2x2x512x1024 .f32
  hvv : vv.IsWhole
  o : Memref sig .tc .vmem S4x512x1024 .f32
  ho : o.IsWhole
  kv : Memref sig .tc .hbm S4x2x2x512x2048 .f32
  hkv : kv.IsWhole
  q : Memref sig .tc .vmem S4x512x1024 .f32
  hq : q.IsWhole
  b : Memref sig .tc .vmem S2x512x2048 .f32
  hb : b.IsWhole
  l : Memref sig .tc .vmem S4x8x512x128 .f32
  hl : l.IsWhole
  dm : DmaSems sig S2x2
  s1 : DmaSems sig S4
  r1 : DmaSems sig S4
  s2 : DmaSems sig S4
  r2 : DmaSems sig S4

theorem inb_sem4 (i : Fin 4) : ∀ a, (![i.val] : Fin 1 → Nat) a + S1.size a ≤ S4.size a := by revert i; decide
theorem inb_sem22 (i j : Fin 2) : ∀ a, (![i.val, j.val] : Fin 2 → Nat) a + S1x1.size a ≤ S2x2.size a := by revert i j; decide
theorem inb_cls (c : Fin 4) : ∀ a, (![c.val, 0, 0] : Fin 3 → Nat) a + S1x512x1024.size a ≤ S4x512x1024.size a := by revert c; decide
theorem inb_oh (c : Fin 4) (h : Fin 8) : ∀ a, (![c.val, 0, 128 * h.val] : Fin 3 → Nat) a + S1x512x128.size a ≤ S4x512x1024.size a := by revert c h; decide
theorem inb_lh (c : Fin 4) (h : Fin 8) : ∀ a, (![c.val, h.val, 0, 0] : Fin 4 → Nat) a + S1x1x512x128.size a ≤ S4x8x512x128.size a := by revert c h; decide
theorem inb_slot (s : Fin 2) : ∀ a, (![s.val, 0, 0] : Fin 3 → Nat) a + S1x512x2048.size a ≤ S2x512x2048.size a := by revert s; decide
theorem inb_half (s : Fin 2) (j : Fin 2) : ∀ a, (![s.val, 0, 1024 * j.val] : Fin 3 → Nat) a + S1x512x1024.size a ≤ S2x512x2048.size a := by revert s j; decide
theorem inb_kcls (x y : Fin 2) : ∀ a, (![x.val, y.val, 0, 0] : Fin 4 → Nat) a + S1x1x512x1024.size a ≤ S2x2x512x1024.size a := by revert x y; decide
theorem slices_q (h : Fin 8) : S512x1024.Slices ![0, 128 * h.val] S512x128 := by revert h; decide
theorem slices_k (h : Fin 8) : S512x2048.Slices ![0, 128 * h.val] S512x128 := by revert h; decide
theorem slices_v (h : Fin 8) : S512x2048.Slices ![0, 1024 + 128 * h.val] S512x128 := by revert h; decide

/-- The barrier's semaphore. -/
abbrev bar : Sem sig := (SemArray.scalar (sig.barrier 0 rfl) : Sems sig S_).sem
/-- One semaphore of an array of four. -/
abbrev sem4 (a : DmaSems sig S4) (i : Fin 4) : DmaSem sig :=
  ((a.slice (Rect.unit (s := S4) ![i.val] S1.size (inb_sem4 i))).squeeze S_ squeezes_S1_S_).sem
/-- One semaphore of the local copies. -/
abbrev sem22 (a : DmaSems sig S2x2) (i j : Fin 2) : DmaSem sig :=
  ((a.slice (Rect.unit (s := S2x2) ![i.val, j.val] S1x1.size (inb_sem22 i j))).squeeze S_ squeezes_S1x1_S_).sem
/-- A half of a slot of the working buffer: the keys' (`0`) or the values' (`1`). -/
abbrev half (b : Memref sig .tc .vmem S2x512x2048 .f32) (s j : Fin 2) : Memref sig .tc .vmem S512x1024 .f32 :=
  (b.slice (Rect.unit (s := S2x512x2048) ![s.val, 0, 1024 * j.val] S1x512x1024.size (inb_half s j)) (fun _ => rfl)).squeeze S512x1024 squeezes_S1x512x1024_S512x1024
/-- A slot of the working buffer. -/
abbrev slot (b : Memref sig .tc .vmem S2x512x2048 .f32) (s : Fin 2) : Memref sig .tc .vmem S512x2048 .f32 :=
  (b.slice (Rect.unit (s := S2x512x2048) ![s.val, 0, 0] S1x512x2048.size (inb_slot s)) (fun _ => rfl)).squeeze S512x2048 squeezes_S1x512x2048_S512x2048
/-- One class's rows of a device's own keys or values. -/
abbrev kcls (a : Memref sig .tc .hbm S2x2x512x1024 .f32) (x y : Fin 2) : Memref sig .tc .hbm S512x1024 .f32 :=
  (a.slice (Rect.unit (s := S2x2x512x1024) ![x.val, y.val, 0, 0] S1x1x512x1024.size (inb_kcls x y)) (fun _ => rfl)).squeeze S512x1024 squeezes_S1x1x512x1024_S512x1024
/-- One class's keys and values of one device in the gathered buffer, at offsets `off`. -/
abbrev blk (kv : Memref sig .tc .hbm S4x2x2x512x2048 .f32) (off : Fin 5 → Nat) (h : ∀ a, off a + S1x1x1x512x2048.size a ≤ S4x2x2x512x2048.size a) :
    Memref sig .tc .hbm S512x2048 .f32 :=
  (kv.slice (Rect.unit (s := S4x2x2x512x2048) off S1x1x1x512x2048.size h) (fun _ => rfl)).squeeze S512x2048 squeezes_S1x1x1x512x2048_S512x2048
/-- One device's keys, or values, of every class in the gathered buffer, at offsets `off`. -/
abbrev part (kv : Memref sig .tc .hbm S4x2x2x512x2048 .f32) (off : Fin 5 → Nat) (h : ∀ a, off a + S1x2x2x512x1024.size a ≤ S4x2x2x512x2048.size a) :
    Memref sig .tc .hbm S2x2x512x1024 .f32 :=
  (kv.slice (Rect.unit (s := S4x2x2x512x2048) off S1x2x2x512x1024.size h) (fun _ => rfl)).squeeze S2x2x512x1024 squeezes_S1x2x2x512x1024_S2x2x512x1024

/-- The rectangle of one head of one class in the accumulated outputs. -/
abbrev orect (c : Fin 4) (h : Fin 8) : Rect S4x512x1024 := Rect.unit (s := S4x512x1024) ![c.val, 0, 128 * h.val] S1x512x128.size (inb_oh c h)
/-- The rectangle of one head of one class in the accumulated weights. -/
abbrev lrect (c : Fin 4) (h : Fin 8) : Rect S4x8x512x128 := Rect.unit (s := S4x8x512x128) ![c.val, h.val, 0, 0] S1x1x512x128.size (inb_lh c h)
/-- The rectangle of one class in the rows or the queries. -/
abbrev crect (c : Fin 4) : Rect S4x512x1024 := Rect.unit (s := S4x512x1024) ![c.val, 0, 0] S1x512x1024.size (inb_cls c)
/-- The rectangle of one slot in the working buffer. -/
abbrev srect (s : Fin 2) : Rect S2x512x2048 := Rect.unit (s := S2x512x2048) ![s.val, 0, 0] S1x512x2048.size (inb_slot s)

/-- The weights of one head: the exponentials of the scaled scores. -/
def wgt (qc : FVec F S512x1024 .f32) (kvc : FVec F S512x2048 .f32) (h : Fin 8) : FVec F S512x512 .f32 :=
  exp (mulf (matmul dot_S512x128_S512x128_S512x512_1_1_0_0_n_n none (extractStridedSlice S512x128 ![0, 128 * h.val] qc (slices_q h))
    (extractStridedSlice S512x128 ![0, 128 * h.val] kvc (slices_k h)) (constant S512x512 .f32 0x00000000#32)) (broadcast S512x512 (Scalar.ofBits .f32 0x3DB504F3#32)))
/-- The accumulated weights after one more block. -/
def lnew (p : FVec F S512x512 .f32) (lo : Vec F S1x1x512x128 .f32) : FVec F S1x1x512x128 .f32 :=
  shapeCast S1x1x512x128 (addf (shapeCast S512x128 lo shapeCasts_S1x1x512x128_S512x128 : FVec F S512x128 .f32)
    (broadcastTo S512x128 (shapeCast S512x1 (shapeCast S512x1 (multiReduction .add [1] S512 p 0x00000000#32 reduces_S512x512_S512 (.inl rfl) rfl : FVec F S512 .f32)
      shapeCasts_S512_S512x1 : FVec F S512x1 .f32) shapeCasts_S512x1_S512x1 : FVec F S512x1 .f32) broadcasts_S512x1_S512x128)) shapeCasts_S512x128_S1x1x512x128
/-- The accumulated output after one more block. -/
def onew (p : FVec F S512x512 .f32) (kvc : FVec F S512x2048 .f32) (h : Fin 8) (oo : Vec F S1x512x128 .f32) : FVec F S1x512x128 .f32 :=
  shapeCast S1x512x128 (addf (shapeCast S512x128 oo shapeCasts_S1x512x128_S512x128 : FVec F S512x128 .f32)
    (matmul dot_S512x512_S512x128_S512x128_1_0_0_1_n_n none p (extractStridedSlice S512x128 ![0, 1024 + 128 * h.val] kvc (slices_v h)) (constant S512x128 .f32 0x00000000#32)))
    shapeCasts_S512x128_S1x512x128
/-- The output of one head, divided by the sum of its weights. -/
def quot (oo : Vec F S1x512x128 .f32) (lo : Vec F S1x1x512x128 .f32) : FVec F S1x512x128 .f32 :=
  shapeCast S1x512x128 (divf (shapeCast S512x128 oo shapeCasts_S1x512x128_S512x128 : FVec F S512x128 .f32)
    (shapeCast S512x128 lo shapeCasts_S1x1x512x128_S512x128)) shapeCasts_S512x128_S1x512x128
/-- The projected queries of one class. -/
def qrow (w : Vec F S1024x1024 .f32) (x : Vec F S1x512x1024 .f32) : FVec F S1x512x1024 .f32 :=
  shapeCast S1x512x1024 (matmul dot_S512x1024_S1024x1024_S512x1024_1_0_0_1_n_n none (shapeCast S512x1024 x shapeCasts_S1x512x1024_S512x1024 : FVec F S512x1024 .f32)
    (shapeCast S1024x1024 w shapeCasts_S1024x1024_S1024x1024 : FVec F S1024x1024 .f32) (constant S512x1024 .f32 0x00000000#32)) shapeCasts_S512x1024_S1x512x1024

/-- The body's programs. -/
abbrev P (F : FTy → Type) [FloatOps F] := Prog (TpuEff nD τ sig (Elt F) Λ₀ .tc) PUnit

/-- One head of one round: the weights' sum and the output gain the block's. -/
def head (M : Mem) (c : Fin 4) (qc : FVec F S512x1024 .f32) (kvc : FVec F S512x2048 .f32) (h : Fin 8) : P F := do
  let lo : Vec F S1x1x512x128 .f32 ← Prog.lift (.load M.l (lrect c h).toLoadRect (View.loadsAt_vmem h_S1x1x512x128))
  let _ : Vec F S1x1x512x128 .f32 ← Prog.lift (.load M.l (lrect c h).toLoadRect (View.loadsAt_vmem h_S1x1x512x128))
  Prog.lift (.store M.l (lrect c h) (lnew (wgt qc kvc h) lo) Finset.univ (View.stores_vmem_bits_univ h_S1x1x512x128 rfl) (.inl rfl))
  let oo : Vec F S1x512x128 .f32 ← Prog.lift (.load M.o (orect c h).toLoadRect (View.loadsAt_vmem h_S1x512x128))
  let _ : Vec F S1x512x128 .f32 ← Prog.lift (.load M.o (orect c h).toLoadRect (View.loadsAt_vmem h_S1x512x128))
  Prog.lift (.store M.o (orect c h) (onew (wgt qc kvc h) kvc h oo) Finset.univ (View.stores_vmem_bits_univ h_S1x512x128 rfl) (.inl rfl))

/-- One head's division. -/
def dive (M : Mem) (c : Fin 4) (h : Fin 8) : P F := do
  let oo : Vec F S1x512x128 .f32 ← Prog.lift (.load M.o (orect c h).toLoadRect (View.loadsAt_vmem h_S1x512x128))
  let lo : Vec F S1x1x512x128 .f32 ← Prog.lift (.load M.l (lrect c h).toLoadRect (View.loadsAt_vmem h_S1x1x512x128))
  let _ : Vec F S1x512x128 .f32 ← Prog.lift (.load M.o (orect c h).toLoadRect (View.loadsAt_vmem h_S1x512x128))
  Prog.lift (.store M.o (orect c h) (quot oo lo) Finset.univ (View.stores_vmem_bits_univ h_S1x512x128 rfl) (.inl rfl))

/-- The eight heads in turn. -/
def heads (f : Fin 8 → P F) : P F := do
  f 0; f 1; f 2; f 3; f 4; f 5; f 6; f 7

/-- One round's arithmetic: class `c` of the queries against the block in slot `s`. -/
def round (M : Mem) (s : Fin 2) (c : Fin 4) : P F := do
  let kvb : Vec F S1x512x2048 .f32 ← Prog.lift (.load M.b (srect s).toLoadRect (View.loadsAt_vmem h_S1x512x2048))
  let qb : Vec F S1x512x1024 .f32 ← Prog.lift (.load M.q (crect c).toLoadRect (View.loadsAt_vmem h_S1x512x1024))
  heads (head M c (shapeCast S512x1024 qb shapeCasts_S1x512x1024_S512x1024) (shapeCast S512x2048 kvb shapeCasts_S1x512x2048_S512x2048))

/-- Start the copy of a class's own keys and values into a slot. -/
def getOwn (M : Mem) (s x y : Fin 2) : P F := do
  Prog.lift (.enqueueDma (kcls M.kk x y) (.here (half M.b s 0)) (.dma (sem22 M.dm s 0)) ((View.wordExact_bits rfl).reshape _ _) ((View.wordExact_bits rfl).reshape _ _) ⟨Or.inl rfl, trivial⟩)
  Prog.lift (.enqueueDma (kcls M.vv x y) (.here (half M.b s 1)) (.dma (sem22 M.dm s 1)) ((View.wordExact_bits rfl).reshape _ _) ((View.wordExact_bits rfl).reshape _ _) ⟨Or.inl rfl, trivial⟩)
/-- Wait for it. -/
def gotOwn (M : Mem) (s x y : Fin 2) : P F := do
  Prog.lift (.waitDma2 (sem22 M.dm s 0) (kcls M.kk x y) (half M.b s 0) ((View.wordExact_bits rfl).reshape _ _) ((View.wordExact_bits rfl).reshape _ _))
  Prog.lift (.waitDma2 (sem22 M.dm s 1) (kcls M.vv x y) (half M.b s 1) ((View.wordExact_bits rfl).reshape _ _) ((View.wordExact_bits rfl).reshape _ _))
/-- Start the copy of a gathered block into a slot. -/
def get (M : Mem) (s : Fin 2) (off : Fin 5 → Nat) (h : ∀ a, off a + S1x1x1x512x2048.size a ≤ S4x2x2x512x2048.size a) : P F :=
  Prog.lift (.enqueueDma (blk M.kv off h) (.here (slot M.b s)) (.dma (sem22 M.dm s 0)) ((View.wordExact_bits rfl).reshape _ _) ((View.wordExact_bits rfl).reshape _ _) ⟨Or.inl rfl, trivial⟩)
/-- Wait for it. -/
def got (M : Mem) (s : Fin 2) (off : Fin 5 → Nat) (h : ∀ a, off a + S1x1x1x512x2048.size a ≤ S4x2x2x512x2048.size a) : P F :=
  Prog.lift (.waitDma2 (sem22 M.dm s 0) (blk M.kv off h) (slot M.b s) ((View.wordExact_bits rfl).reshape _ _) ((View.wordExact_bits rfl).reshape _ _))
/-- Send a whole array of a device's own to a neighbour. -/
def put (M : Mem) (src : Memref sig .tc .hbm S2x2x512x1024 .f32) (hs : src.IsWhole) (n : Dev nD) (i : Fin 4) (off : Fin 5 → Nat)
    (h : ∀ a, off a + S1x2x2x512x1024.size a ≤ S4x2x2x512x2048.size a) : P F :=
  Prog.lift (.enqueueDma src (.remote (Dev.tc n) (part M.kv off h) (.dma (sem4 M.s1 i))) (.dma (sem4 M.r1 i)) hs.wordExact ((View.wordExact_bits rfl).reshape _ _) ⟨⟨rfl, Or.inl rfl⟩, trivial⟩)
/-- Wait for a neighbour's array. -/
def came (M : Mem) (src : Memref sig .tc .hbm S2x2x512x1024 .f32) (hs : src.IsWhole) (i : Fin 4) (off : Fin 5 → Nat)
    (h : ∀ a, off a + S1x2x2x512x1024.size a ≤ S4x2x2x512x2048.size a) : P F :=
  Prog.lift (.waitDma2 (sem4 M.r1 i) src (part M.kv off h) hs.wordExact ((View.wordExact_bits rfl).reshape _ _))
/-- Wait until an array of the device's own has been read out. -/
def left (M : Mem) (src : Memref sig .tc .hbm S2x2x512x1024 .f32) (hs : src.IsWhole) (i : Fin 4) (off : Fin 5 → Nat)
    (h : ∀ a, off a + S1x2x2x512x1024.size a ≤ S4x2x2x512x2048.size a) : P F :=
  Prog.lift (.waitDma2 (sem4 M.s1 i) (part M.kv off h) src ((View.wordExact_bits rfl).reshape _ _) hs.wordExact)
/-- Forward a gathered block to a neighbour. -/
def fwd (M : Mem) (n : Dev nD) (i : Fin 4) (off : Fin 5 → Nat) (h : ∀ a, off a + S1x1x1x512x2048.size a ≤ S4x2x2x512x2048.size a) : P F :=
  Prog.lift (.enqueueDma (blk M.kv off h) (.remote (Dev.tc n) (blk M.kv off h) (.dma (sem4 M.s2 i))) (.dma (sem4 M.r2 i)) ((View.wordExact_bits rfl).reshape _ _) ((View.wordExact_bits rfl).reshape _ _) ⟨⟨rfl, Or.inl rfl⟩, trivial⟩)
/-- Wait for a forwarded block (on `sm`: its arrival, or its having been read out). -/
def wait2 (M : Mem) (sm : DmaSem sig) (off : Fin 5 → Nat) (h : ∀ a, off a + S1x1x1x512x2048.size a ≤ S4x2x2x512x2048.size a) : P F :=
  Prog.lift (.waitDma2 sm (blk M.kv off h) (blk M.kv off h) ((View.wordExact_bits rfl).reshape _ _) ((View.wordExact_bits rfl).reshape _ _))

/-- The queries of one class. -/
def query (M : Mem) (w : Vec F S1024x1024 .f32) (c : Fin 4) : P F := do
  let x : Vec F S1x512x1024 .f32 ← Prog.lift (.load M.xs (crect c).toLoadRect (View.loadsAt_vmem h_S1x512x1024))
  let _ : Vec F S1x512x1024 .f32 ← Prog.lift (.load M.q (crect c).toLoadRect (View.loadsAt_vmem h_S1x512x1024))
  Prog.lift (.store M.q (crect c) (qrow w x) Finset.univ (View.stores_vmem_bits_univ h_S1x512x1024 rfl) (.inl rfl))

/-- The queries of every class, and the accumulators at zero. -/
def start (M : Mem) : P F := do
  let w : Vec F S1024x1024 .f32 ← Prog.lift (.load M.wq (Rect.unit (s := S1024x1024) ![0, 0] S1024x1024.size inb_S1024x1024_S1024x1024_0_0).toLoadRect (View.loadsAt_vmem h_S1024x1024))
  query M w 0; query M w 1; query M w 2; query M w 3
  let _ : Vec F S4x512x1024 .f32 ← Prog.lift (.load M.o (Rect.unit (s := S4x512x1024) ![0, 0, 0] S4x512x1024.size inb_S4x512x1024_S4x512x1024_0_0_0).toLoadRect (View.loadsAt_vmem h_S4x512x1024))
  Prog.lift (.store M.o (Rect.unit (s := S4x512x1024) ![0, 0, 0] S4x512x1024.size inb_S4x512x1024_S4x512x1024_0_0_0) (broadcast S4x512x1024 (Scalar.ofBits .f32 0x00000000#32)) Finset.univ (View.stores_vmem_bits_univ h_S4x512x1024 rfl) (.inl rfl))
  let _ : Vec F S4x8x512x128 .f32 ← Prog.lift (.load M.l (Rect.unit (s := S4x8x512x128) ![0, 0, 0, 0] S4x8x512x128.size inb_S4x8x512x128_S4x8x512x128_0_0_0_0).toLoadRect (View.loadsAt_vmem h_S4x8x512x128))
  Prog.lift (.store M.l (Rect.unit (s := S4x8x512x128) ![0, 0, 0, 0] S4x8x512x128.size inb_S4x8x512x128_S4x8x512x128_0_0_0_0)
    (shapeCast S4x8x512x128 (broadcast S4x8x512x128 (Scalar.ofBits .f32 0x00000000#32) : FVec F S4x8x512x128 .f32) shapeCasts_S4x8x512x128_S4x8x512x128) Finset.univ (View.stores_vmem_bits_univ h_S4x8x512x128 rfl) (.inl rfl))

/-- The body, past reading the device's own name. -/
def rest (M : Mem) (d : Dev nD) : P F := do
  semSignalWord (⟨k0_dev1 d, k0_dev1_lt d⟩ : Dev nD) bar 1#32
  semSignalWord (⟨k0_dev2 d, k0_dev2_lt d⟩ : Dev nD) bar 1#32
  semWaitWord bar 2#32
  put M M.kk M.hkk ⟨k0_dev3 d, k0_dev3_lt d⟩ 0 (k0_off1 d) (k0_off1_inb d)
  put M M.vv M.hvv ⟨k0_dev4 d, k0_dev4_lt d⟩ 1 (k0_off2 d) (k0_off2_inb d)
  put M M.kk M.hkk ⟨k0_dev5 d, k0_dev5_lt d⟩ 2 (k0_off1 d) (k0_off1_inb d)
  put M M.vv M.hvv ⟨k0_dev6 d, k0_dev6_lt d⟩ 3 (k0_off2 d) (k0_off2_inb d)
  start M
  getOwn M 0 0 0
  getOwn M 1 0 1
  gotOwn M 0 0 0
  round M 0 0
  getOwn M 0 1 0
  gotOwn M 1 0 1
  round M 1 1
  getOwn M 1 1 1
  gotOwn M 0 1 0
  round M 0 2
  came M M.kk M.hkk 2 (k0_off3 d) (k0_off3_inb d)
  came M M.vv M.hvv 3 (k0_off4 d) (k0_off4_inb d)
  fwd M ⟨k0_dev7 d, k0_dev7_lt d⟩ 0 (k0_off5 d) (k0_off5_inb d)
  fwd M ⟨k0_dev8 d, k0_dev8_lt d⟩ 1 (k0_off6 d) (k0_off6_inb d)
  get M 0 (k0_off5 d) (k0_off5_inb d)
  gotOwn M 1 1 1
  round M 1 3
  get M 1 (k0_off6 d) (k0_off6_inb d)
  got M 0 (k0_off5 d) (k0_off5_inb d)
  round M 0 0
  get M 0 (k0_off7 d) (k0_off7_inb d)
  got M 1 (k0_off6 d) (k0_off6_inb d)
  round M 1 1
  get M 1 (k0_off8 d) (k0_off8_inb d)
  got M 0 (k0_off7 d) (k0_off7_inb d)
  round M 0 2
  came M M.kk M.hkk 0 (k0_off9 d) (k0_off9_inb d)
  came M M.vv M.hvv 1 (k0_off10 d) (k0_off10_inb d)
  fwd M ⟨k0_dev9 d, k0_dev9_lt d⟩ 2 (k0_off11 d 1#32) (k0_off11_inb d 0)
  fwd M ⟨k0_dev10 d, k0_dev10_lt d⟩ 3 (k0_off12 d 1#32) (k0_off12_inb d 0)
  get M 0 (k0_off13 d 1#32) (k0_off13_inb d 0)
  got M 1 (k0_off8 d) (k0_off8_inb d)
  round M 1 3
  get M 1 (k0_off14 d 1#32) (k0_off14_inb d 0)
  got M 0 (k0_off13 d 1#32) (k0_off13_inb d 0)
  round M 0 0
  get M 0 (k0_off11 d 1#32) (k0_off11_inb d 0)
  got M 1 (k0_off14 d 1#32) (k0_off14_inb d 0)
  round M 1 1
  get M 1 (k0_off12 d 1#32) (k0_off12_inb d 0)
  got M 0 (k0_off11 d 1#32) (k0_off11_inb d 0)
  round M 0 2
  wait2 M (sem4 M.r2 0) (k0_off13 d 2#32) (k0_off13_inb d 1)
  get M 0 (k0_off13 d 2#32) (k0_off13_inb d 1)
  got M 1 (k0_off12 d 1#32) (k0_off12_inb d 0)
  round M 1 3
  wait2 M (sem4 M.r2 2) (k0_off11 d 2#32) (k0_off11_inb d 1)
  get M 1 (k0_off11 d 2#32) (k0_off11_inb d 1)
  got M 0 (k0_off13 d 2#32) (k0_off13_inb d 1)
  round M 0 0
  heads (dive M 0)
  wait2 M (sem4 M.r2 1) (k0_off14 d 2#32) (k0_off14_inb d 1)
  get M 0 (k0_off14 d 2#32) (k0_off14_inb d 1)
  got M 1 (k0_off11 d 2#32) (k0_off11_inb d 1)
  round M 1 2
  heads (dive M 2)
  wait2 M (sem4 M.r2 3) (k0_off12 d 2#32) (k0_off12_inb d 1)
  get M 1 (k0_off12 d 2#32) (k0_off12_inb d 1)
  got M 0 (k0_off14 d 2#32) (k0_off14_inb d 1)
  round M 0 1
  heads (dive M 1)
  got M 1 (k0_off12 d 2#32) (k0_off12_inb d 1)
  round M 1 3
  heads (dive M 3)
  left M M.kk M.hkk 0 (k0_off1 d) (k0_off1_inb d)
  left M M.vv M.hvv 1 (k0_off2 d) (k0_off2_inb d)
  left M M.kk M.hkk 2 (k0_off1 d) (k0_off1_inb d)
  left M M.vv M.hvv 3 (k0_off2 d) (k0_off2_inb d)
  wait2 M (sem4 M.s2 0) (k0_off5 d) (k0_off5_inb d)
  wait2 M (sem4 M.s2 1) (k0_off6 d) (k0_off6_inb d)
  wait2 M (sem4 M.s2 2) (k0_off11 d 1#32) (k0_off11_inb d 0)
  wait2 M (sem4 M.s2 3) (k0_off12 d 1#32) (k0_off12_inb d 0)

/-- The body. -/
def body (M : Mem) : P F := do
  let d : Dev nD ← Prog.lift .deviceId
  rest M d

end Cert.KernelIdeal.Struct

end
-- ==== Proof.Slabs.lean ====
/- The pieces of the memory the kernel's body works on: which cells a head's rectangle, a class's
   rectangle, a slot of the working buffer and a block of the gathered buffer are, and what they
   read and write when the contents are given piece by piece. -/
module

public import proofs.«01_k».proof.Proof.Body
public import Idealize.ShloMosaic.Lib.ValueLayout

@[expose] public section

noncomputable section

namespace Cert.KernelIdeal.Struct

open Idealize.ShloMosaic Idealize.SL.Sem Idealize.ShloMosaic.ValueIdx
open Cert.KernelIdeal.Gen

variable {F : FTy → Type} [FloatOps F]

/-- The memory of the one call. -/
abbrev M0 : Mem where
  xs := Memref.whole cc0_stg0_0
  hxs := Memref.isWhole_whole _
  wq := Memref.whole cc0_stg1_0
  hwq := Memref.isWhole_whole _
  kk := Memref.whole main_v10
  hkk := Memref.isWhole_whole _
  vv := Memref.whole main_v16
  hvv := Memref.isWhole_whole _
  o := Memref.whole cc0_stg2_0
  ho := Memref.isWhole_whole _
  kv := Memref.whole main_v17_1
  hkv := Memref.isWhole_whole _
  q := Memref.whole cc0_scratch0
  hq := Memref.isWhole_whole _
  b := Memref.whole cc0_scratch1
  hb := Memref.isWhole_whole _
  l := Memref.whole cc0_scratch2
  hl := Memref.isWhole_whole _
  dm := cc0_scratch3
  s1 := cc0_scratch4
  r1 := cc0_scratch5
  s2 := cc0_scratch6
  r2 := cc0_scratch7

section Generic
variable {κ : Kind} {sp : Space} {s : Shape} {e : EltTy} {Val : EltTy → Type}

/-- A write of a whole view lands, on the view's cells, on any contents that read as what is written. -/
theorem write_univ_on (v : View sig κ sp s e) {f g : v.ty.Contents Val} {w : s.Idx → Val e} (h : v.read Val g = w) :
    ∀ i ∈ v.set, v.write Val f w Finset.univ i = g i := by
  intro i hi
  obtain ⟨x, -, rfl⟩ := Finset.mem_map.mp hi
  have h1 : v.read Val (v.write Val f w Finset.univ) x = v.read Val g x := by rw [View.read_write_univ, h]
  rw [View.read_apply, View.read_apply] at h1
  exact eq_of_heq ((cast_heq _ _).symm.trans ((heq_of_eq h1).trans (cast_heq _ _)))

/-- A write of a whole view gives any contents that read as what is written and agree elsewhere. -/
theorem write_univ_eq (v : View sig κ sp s e) {f g : v.ty.Contents Val} {w : s.Idx → Val e} (h : v.read Val g = w)
    (h' : ∀ i, i ∉ v.set → g i = f i) : v.write Val f w Finset.univ = g := by
  funext i
  by_cases hi : i ∈ v.set
  · exact write_univ_on v h i hi
  · rw [h' i hi]
    exact View.write_of_not_mem f w Finset.univ hi
end Generic

/-! ### Contents given piece by piece -/

variable {α : Type}

/-- The accumulated outputs, from each class's and head's. -/
def oAt (g : Fin 4 → Fin 8 → S1x512x128.Idx → α) : S4x512x1024.Idx → α := fun i =>
  g (i 0) ⟨(i 2).val / 128, by have h : (i 2).val < 1024 := (i 2).isLt; omega⟩ (ix3 0 (i 1) ⟨(i 2).val % 128, Nat.mod_lt _ (by decide)⟩)
/-- The accumulated weights, from each class's and head's. -/
def lAt (g : Fin 4 → Fin 8 → S1x1x512x128.Idx → α) : S4x8x512x128.Idx → α := fun i => g (i 0) (i 1) (ix4 0 0 (i 2) (i 3))
/-- The queries, from each class's. -/
def qAt (g : Fin 4 → S1x512x1024.Idx → α) : S4x512x1024.Idx → α := fun i => g (i 0) (ix3 0 (i 1) (i 2))
/-- The working buffer with one block in each slot. -/
def bAt (v : S512x2048.Idx → α) : S2x512x2048.Idx → α := fun i => v (ix2 (i 1) (i 2))
/-- The gathered buffer, from every device's keys and values. -/
def kvG (Kd Vd : Dev nD → S2x2x512x1024.Idx → α) : S4x2x2x512x2048.Idx → α := fun i =>
  if h : (i 4).val < 1024 then Kd (i 0) (ix4 (i 1) (i 2) (i 3) ⟨(i 4).val, h⟩)
  else Vd (i 0) (ix4 (i 1) (i 2) (i 3) ⟨(i 4).val - 1024, by have h : (i 4).val < 2048 := (i 4).isLt; omega⟩)
/-- One device's keys and values of one class. -/
def blkVal (Kd Vd : Dev nD → S2x2x512x1024.Idx → α) (d : Dev nD) (x y : Fin 2) : S512x2048.Idx → α := fun i => kvG Kd Vd (ix5 d x y (i 0) (i 1))

/-- One class's and head's replaced. -/
def upd {β : Type} (g : Fin 4 → Fin 8 → β) (c : Fin 4) (h : Fin 8) (v : β) : Fin 4 → Fin 8 → β :=
  fun c' h' => if c' = c ∧ h' = h then v else g c' h'

theorem upd_self {β : Type} (g : Fin 4 → Fin 8 → β) (c : Fin 4) (h : Fin 8) (v : β) : upd g c h v c h = v := by simp [upd]

/-! ### Which cells -/

theorem mem_unit3 {n a s : Fin 3 → Nat} {inb} (i : (⟨3, n⟩ : Shape).Idx) : i ∈ (Rect.unit (s := ⟨3, n⟩) a s inb).set ↔
    (a 0 ≤ (i 0).val ∧ (i 0).val < a 0 + s 0) ∧ (a 1 ≤ (i 1).val ∧ (i 1).val < a 1 + s 1) ∧ (a 2 ≤ (i 2).val ∧ (i 2).val < a 2 + s 2) := by
  rw [Rect.mem_set_unit]
  refine ⟨fun H => ⟨H 0, H 1, H 2⟩, fun H k => ?_⟩
  fin_cases k
  exacts [H.1, H.2.1, H.2.2]
theorem mem_unit4 {n a s : Fin 4 → Nat} {inb} (i : (⟨4, n⟩ : Shape).Idx) : i ∈ (Rect.unit (s := ⟨4, n⟩) a s inb).set ↔
    (a 0 ≤ (i 0).val ∧ (i 0).val < a 0 + s 0) ∧ (a 1 ≤ (i 1).val ∧ (i 1).val < a 1 + s 1) ∧ (a 2 ≤ (i 2).val ∧ (i 2).val < a 2 + s 2)
      ∧ (a 3 ≤ (i 3).val ∧ (i 3).val < a 3 + s 3) := by
  rw [Rect.mem_set_unit]
  refine ⟨fun H => ⟨H 0, H 1, H 2, H 3⟩, fun H k => ?_⟩
  fin_cases k
  exacts [H.1, H.2.1, H.2.2.1, H.2.2.2]
theorem mem_unit5 {n a s : Fin 5 → Nat} {inb} (i : (⟨5, n⟩ : Shape).Idx) : i ∈ (Rect.unit (s := ⟨5, n⟩) a s inb).set ↔
    (a 0 ≤ (i 0).val ∧ (i 0).val < a 0 + s 0) ∧ (a 1 ≤ (i 1).val ∧ (i 1).val < a 1 + s 1) ∧ (a 2 ≤ (i 2).val ∧ (i 2).val < a 2 + s 2)
      ∧ (a 3 ≤ (i 3).val ∧ (i 3).val < a 3 + s 3) ∧ (a 4 ≤ (i 4).val ∧ (i 4).val < a 4 + s 4) := by
  rw [Rect.mem_set_unit]
  refine ⟨fun H => ⟨H 0, H 1, H 2, H 3, H 4⟩, fun H k => ?_⟩
  fin_cases k
  exacts [H.1, H.2.1, H.2.2.1, H.2.2.2.1, H.2.2.2.2]

theorem mem_orect (c : Fin 4) (h : Fin 8) (i : S4x512x1024.Idx) : i ∈ (orect c h).set ↔ (i 0).val = c.val ∧ (i 2).val / 128 = h.val := by
  have h1 : (i 1).val < 512 := (i 1).isLt
  rw [mem_unit3]
  simp only [Matrix.cons_val_zero, Matrix.cons_val_one, Matrix.cons_val]
  omega
theorem mem_lrect (c : Fin 4) (h : Fin 8) (i : S4x8x512x128.Idx) : i ∈ (lrect c h).set ↔ (i 0).val = c.val ∧ (i 1).val = h.val := by
  have h2 : (i 2).val < 512 := (i 2).isLt
  have h3 : (i 3).val < 128 := (i 3).isLt
  rw [mem_unit4]
  simp only [Matrix.cons_val_zero, Matrix.cons_val_one, Matrix.cons_val]
  omega
theorem mem_crect (c : Fin 4) (i : S4x512x1024.Idx) : i ∈ (crect c).set ↔ (i 0).val = c.val := by
  have h1 : (i 1).val < 512 := (i 1).isLt
  have h2 : (i 2).val < 1024 := (i 2).isLt
  rw [mem_unit3]
  simp only [Matrix.cons_val_zero, Matrix.cons_val_one, Matrix.cons_val]
  omega

theorem mem_slot (s : Fin 2) (i : S2x512x2048.Idx) : i ∈ ((slot M0.b s).view.set : Finset S2x512x2048.Idx) ↔ (i 0).val = s.val := by
  have h1 : (i 1).val < 512 := (i 1).isLt
  have h2 : (i 2).val < 2048 := (i 2).isLt
  have e : ((slot M0.b s).view.set : Finset _) = (srect s).set := (View.set_reshape _ _).trans (View.set_slice_whole cc0_scratch1 (srect s))
  rw [e, mem_unit3]
  simp only [Matrix.cons_val_zero, Matrix.cons_val_one, Matrix.cons_val]
  omega
theorem mem_half (s j : Fin 2) (i : S2x512x2048.Idx) : i ∈ ((half M0.b s j).view.set : Finset S2x512x2048.Idx) ↔ (i 0).val = s.val ∧ (i 2).val / 1024 = j.val := by
  have h1 : (i 1).val < 512 := (i 1).isLt
  have h2 : (i 2).val < 2048 := (i 2).isLt
  have e : ((half M0.b s j).view.set : Finset _) = (Rect.unit (s := S2x512x2048) ![s.val, 0, 1024 * j.val] S1x512x1024.size (inb_half s j)).set :=
    (View.set_reshape _ _).trans (View.set_slice_whole cc0_scratch1 _)
  rw [e, mem_unit3]
  simp only [Matrix.cons_val_zero, Matrix.cons_val_one, Matrix.cons_val]
  omega
theorem mem_blk {off : Fin 5 → Nat} (hin) (d : Fin 4) (x y : Fin 2) (e : off = ![d.val, x.val, y.val, 0, 0]) (i : S4x2x2x512x2048.Idx) :
    i ∈ ((blk M0.kv off hin).view.set : Finset S4x2x2x512x2048.Idx) ↔ (i 0).val = d.val ∧ (i 1).val = x.val ∧ (i 2).val = y.val := by
  subst e
  have h1 : (i 3).val < 512 := (i 3).isLt
  have h2 : (i 4).val < 2048 := (i 4).isLt
  have e : ((blk M0.kv _ hin).view.set : Finset _) = (Rect.unit (s := S4x2x2x512x2048) ![d.val, x.val, y.val, 0, 0] S1x1x1x512x2048.size hin).set :=
    (View.set_reshape _ _).trans (View.set_slice_whole main_v17_1 _)
  rw [e, mem_unit5]
  simp only [Matrix.cons_val_zero, Matrix.cons_val_one, Matrix.cons_val]
  omega
theorem mem_part {off : Fin 5 → Nat} (hin) (d : Fin 4) (j : Fin 2) (e : off = ![d.val, 0, 0, 0, 1024 * j.val]) (i : S4x2x2x512x2048.Idx) :
    i ∈ ((part M0.kv off hin).view.set : Finset S4x2x2x512x2048.Idx) ↔ (i 0).val = d.val ∧ (i 4).val / 1024 = j.val := by
  subst e
  have h1 : (i 1).val < 2 := (i 1).isLt
  have h2 : (i 2).val < 2 := (i 2).isLt
  have h3 : (i 3).val < 512 := (i 3).isLt
  have h4 : (i 4).val < 2048 := (i 4).isLt
  have e : ((part M0.kv _ hin).view.set : Finset _) = (Rect.unit (s := S4x2x2x512x2048) ![d.val, 0, 0, 0, 1024 * j.val] S1x2x2x512x1024.size hin).set :=
    (View.set_reshape _ _).trans (View.set_slice_whole main_v17_1 _)
  rw [e, mem_unit5]
  simp only [Matrix.cons_val_zero, Matrix.cons_val_one, Matrix.cons_val]
  omega

/-! ### Reads -/

theorem unit_val {s : Shape} {a z : Fin s.rank → Nat} {inb} (x : (Rect.unit a z inb).shape.Idx) (k : Fin s.rank) :
    ((Rect.unit a z inb).emb x k).val = a k + (x k).val := by
  show a k + 1 * (x k).val = _
  rw [Nat.one_mul]

/-- A coordinate past an offset, past none, and at an offset. -/
theorem unit_at {s : Shape} {a z : Fin s.rank → Nat} {inb} (x : (Rect.unit a z inb).shape.Idx) (k : Fin s.rank) (m n : Nat) (ha : a k = m) (hx : (x k).val = n) :
    ((Rect.unit a z inb).emb x k).val = m + n := (unit_val x k).trans (congrArg₂ (· + ·) ha hx)
theorem unit_at0 {s : Shape} {a z : Fin s.rank → Nat} {inb} (x : (Rect.unit a z inb).shape.Idx) (k : Fin s.rank) (n : Nat) (ha : a k = 0) (hx : (x k).val = n) :
    ((Rect.unit a z inb).emb x k).val = n := (unit_at x k 0 n ha hx).trans (Nat.zero_add n)
theorem unit_on {s : Shape} {a z : Fin s.rank → Nat} {inb} (x : (Rect.unit a z inb).shape.Idx) (k : Fin s.rank) (m : Nat) (ha : a k = m) (hx : (x k).val = 0) :
    ((Rect.unit a z inb).emb x k).val = m := unit_at x k m 0 ha hx

theorem oAt_of (g : Fin 4 → Fin 8 → S1x512x128.Idx → α) (c : Fin 4) (h : Fin 8) (x : S1x512x128.Idx) (i : S4x512x1024.Idx)
    (h0 : (i 0).val = c.val) (h1 : (i 1).val = (x 1).val) (h2 : (i 2).val = 128 * h.val + (x 2).val) : oAt g i = g c h x := by
  have hx : (x 2).val < 128 := (x 2).isLt
  have hx0 : (x 0).val < 1 := (x 0).isLt
  have e0 : i 0 = c := Fin.ext h0
  have e1 : i 1 = x 1 := Fin.ext h1
  have e2 : ∀ p, (⟨(i 2).val / 128, p⟩ : Fin 8) = h := fun p => Fin.ext (by show (i 2).val / 128 = _; omega)
  have e3 : ∀ p, (⟨(i 2).val % 128, p⟩ : Fin 128) = x 2 := fun p => Fin.ext (by show (i 2).val % 128 = (x 2).val; omega)
  have e4 : (0 : Fin 1) = x 0 := Fin.ext (by show 0 = (x 0).val; omega)
  unfold oAt
  rw [e0, e1, e2, e3, e4]
  exact congrArg _ (eq_ix3 x).symm
theorem lAt_of (g : Fin 4 → Fin 8 → S1x1x512x128.Idx → α) (c : Fin 4) (h : Fin 8) (x : S1x1x512x128.Idx) (i : S4x8x512x128.Idx)
    (h0 : (i 0).val = c.val) (h1 : (i 1).val = h.val) (h2 : (i 2).val = (x 2).val) (h3 : (i 3).val = (x 3).val) : lAt g i = g c h x := by
  have hx0 : (x 0).val < 1 := (x 0).isLt
  have hx1 : (x 1).val < 1 := (x 1).isLt
  have e0 : i 0 = c := Fin.ext h0
  have e1 : i 1 = h := Fin.ext h1
  have e2 : i 2 = x 2 := Fin.ext h2
  have e3 : i 3 = x 3 := Fin.ext h3
  have e4 : x 0 = (0 : Fin 1) := Fin.ext (by show (x 0).val = 0; omega)
  have e5 : x 1 = (0 : Fin 1) := Fin.ext (by show (x 1).val = 0; omega)
  unfold lAt
  rw [e0, e1, e2, e3]
  refine congrArg _ ?_
  conv_rhs => rw [eq_ix4 x, e4, e5]
  rfl
theorem qAt_of (g : Fin 4 → S1x512x1024.Idx → α) (c : Fin 4) (x : S1x512x1024.Idx) (i : S4x512x1024.Idx)
    (h0 : (i 0).val = c.val) (h1 : (i 1).val = (x 1).val) (h2 : (i 2).val = (x 2).val) : qAt g i = g c x := by
  have hx0 : (x 0).val < 1 := (x 0).isLt
  have e0 : i 0 = c := Fin.ext h0
  have e1 : i 1 = x 1 := Fin.ext h1
  have e2 : i 2 = x 2 := Fin.ext h2
  have e4 : x 0 = (0 : Fin 1) := Fin.ext (by show (x 0).val = 0; omega)
  unfold qAt
  rw [e0, e1, e2]
  refine congrArg _ ?_
  conv_rhs => rw [eq_ix3 x, e4]
  rfl

theorem read_o (g : Fin 4 → Fin 8 → Vec F S1x512x128 .f32) (c : Fin 4) (h : Fin 8) :
    (M0.o.access (orect c h)).read (Elt F) (oAt g) = g c h := by
  funext x
  have h0 : (x 0).val < 1 := (x 0).isLt
  refine oAt_of g c h x ((orect c h).emb x) ((unit_val x 0).trans ?_) ((unit_val x 1).trans ?_) (unit_val x 2)
  · show c.val + (x 0).val = c.val
    omega
  · exact Nat.zero_add _
theorem read_l (g : Fin 4 → Fin 8 → Vec F S1x1x512x128 .f32) (c : Fin 4) (h : Fin 8) :
    (M0.l.access (lrect c h)).read (Elt F) (lAt g) = g c h := by
  funext x
  have h0 : (x 0).val < 1 := (x 0).isLt
  have h1 : (x 1).val < 1 := (x 1).isLt
  refine lAt_of g c h x ((lrect c h).emb x) ((unit_val x 0).trans ?_) ((unit_val x 1).trans ?_) ((unit_val x 2).trans ?_) ((unit_val x 3).trans ?_)
  · show c.val + (x 0).val = c.val
    omega
  · show h.val + (x 1).val = h.val
    omega
  · exact Nat.zero_add _
  · exact Nat.zero_add _
theorem read_q (g : Fin 4 → Vec F S1x512x1024 .f32) (c : Fin 4) :
    (M0.q.access (crect c)).read (Elt F) (qAt g) = g c := by
  funext x
  have h0 : (x 0).val < 1 := (x 0).isLt
  refine qAt_of g c x ((crect c).emb x) ((unit_val x 0).trans ?_) ((unit_val x 1).trans ?_) ((unit_val x 2).trans ?_)
  · show c.val + (x 0).val = c.val
    omega
  · exact Nat.zero_add _
  · exact Nat.zero_add _

/-! ### Writes -/

theorem write_o (g : Fin 4 → Fin 8 → Vec F S1x512x128 .f32) (c : Fin 4) (h : Fin 8) (v : Vec F S1x512x128 .f32) :
    (M0.o.access (orect c h)).write (Elt F) (oAt g) v Finset.univ = oAt (upd g c h v) := by
  refine write_univ_eq (M0.o.access (orect c h)) ((read_o _ c h).trans (upd_self g c h v)) fun i hi => ?_
  have hi' : i ∉ (orect c h).set := fun H => hi ((View.set_slice_whole cc0_stg2_0 (orect c h)).symm ▸ H)
  rw [mem_orect] at hi'
  exact congrFun (if_neg fun H : _ ∧ _ => hi' ⟨congrArg Fin.val H.1, congrArg Fin.val H.2⟩) _
theorem write_l (g : Fin 4 → Fin 8 → Vec F S1x1x512x128 .f32) (c : Fin 4) (h : Fin 8) (v : Vec F S1x1x512x128 .f32) :
    (M0.l.access (lrect c h)).write (Elt F) (lAt g) v Finset.univ = lAt (upd g c h v) := by
  refine write_univ_eq (M0.l.access (lrect c h)) ((read_l _ c h).trans (upd_self g c h v)) fun i hi => ?_
  have hi' : i ∉ (lrect c h).set := fun H => hi ((View.set_slice_whole cc0_scratch2 (lrect c h)).symm ▸ H)
  rw [mem_lrect] at hi'
  exact congrFun (if_neg fun H : _ ∧ _ => hi' ⟨congrArg Fin.val H.1, congrArg Fin.val H.2⟩) _

/-- One class's replaced. -/
def upq {β : Type} (g : Fin 4 → β) (c : Fin 4) (v : β) : Fin 4 → β := fun c' => if c' = c then v else g c'
theorem write_q (g : Fin 4 → Vec F S1x512x1024 .f32) (c : Fin 4) (v : Vec F S1x512x1024 .f32) :
    (M0.q.access (crect c)).write (Elt F) (qAt g) v Finset.univ = qAt (upq g c v) := by
  refine write_univ_eq (M0.q.access (crect c)) ((read_q _ c).trans (if_pos rfl)) fun i hi => ?_
  have hi' : i ∉ (crect c).set := fun H => hi ((View.set_slice_whole cc0_scratch0 (crect c)).symm ▸ H)
  rw [mem_crect] at hi'
  exact congrFun (if_neg fun H : i 0 = c => hi' (congrArg Fin.val H)) _
/-- Any contents of the queries' buffer is given class by class. -/
theorem eq_qAt (f : S4x512x1024.Idx → α) : f = qAt fun c x => f (ix3 c (x 1) (x 2)) := by
  funext i
  exact congrArg f (eq_ix3 i)
/-- The accumulators at one value everywhere. -/
theorem oAt_const (a : α) : oAt (fun _ _ _ => a) = fun _ => a := rfl
theorem lAt_const (a : α) : lAt (fun _ _ _ => a) = fun _ => a := rfl

/-! ### Copies -/

theorem sub_1ab (h) (x : S512x2048.Idx) : Shape.reshapeEquiv (s' := S512x2048) (s := S1x512x2048) h x = ix3 0 (x 0) (x 1) := by
  conv_lhs => rw [eq_ix2 x]
  exact reshapeEquiv_ix2_1ab h (x 0) (x 1)
theorem sub_1ab' (h) (x : S512x1024.Idx) : Shape.reshapeEquiv (s' := S512x1024) (s := S1x512x1024) h x = ix3 0 (x 0) (x 1) := by
  conv_lhs => rw [eq_ix2 x]
  exact reshapeEquiv_ix2_1ab h (x 0) (x 1)
theorem sub_11ab (h) (x : S512x1024.Idx) : Shape.reshapeEquiv (s' := S512x1024) (s := S1x1x512x1024) h x = ix4 0 0 (x 0) (x 1) := by
  conv_lhs => rw [eq_ix2 x]
  exact reshapeEquiv_ix2_11ab h (x 0) (x 1)
theorem squeeze3 {a b : ℕ} (h : (⟨2, ![a, b]⟩ : Shape).numel = (⟨5, ![1, 1, 1, a, b]⟩ : Shape).numel) (x : Fin a) (y : Fin b) :
    Shape.reshapeEquiv h (ix2 x y) = ix5 (0 : Fin 1) (0 : Fin 1) (0 : Fin 1) x y :=
  Shape.reshapeEquiv_eq_of_rowMajor h (by
    rw [Shape.rowMajor_val_five, Shape.rowMajor_val_two]
    show ((((0 * 1 + 0) * 1 + 0) * a + x.val) * b + y.val) = x.val * b + y.val
    simp only [Nat.zero_mul, Nat.zero_add])
theorem squeeze1 {a b c e : ℕ} (h : (⟨4, ![a, b, c, e]⟩ : Shape).numel = (⟨5, ![1, a, b, c, e]⟩ : Shape).numel) (x : Fin a) (y : Fin b) (z : Fin c) (w : Fin e) :
    Shape.reshapeEquiv h (ix4 x y z w) = ix5 (0 : Fin 1) x y z w :=
  Shape.reshapeEquiv_eq_of_rowMajor h (by
    rw [Shape.rowMajor_val_five, Shape.rowMajor_val_four]
    show ((((0 * a + x.val) * b + y.val) * c + z.val) * e + w.val) = ((x.val * b + y.val) * c + z.val) * e + w.val
    simp only [Nat.zero_mul, Nat.zero_add])
theorem sub_111ab (h) (x : S512x2048.Idx) : Shape.reshapeEquiv (s' := S512x2048) (s := S1x1x1x512x2048) h x = ix5 0 0 0 (x 0) (x 1) := by
  conv_lhs => rw [eq_ix2 x]
  exact squeeze3 h (x 0) (x 1)
theorem sub_1abcd (h) (x : S2x2x512x1024.Idx) : Shape.reshapeEquiv (s' := S2x2x512x1024) (s := S1x2x2x512x1024) h x = ix5 0 (x 0) (x 1) (x 2) (x 3) := by
  conv_lhs => rw [eq_ix4 x]
  exact squeeze1 h (x 0) (x 1) (x 2) (x 3)

theorem bAt_of (v : S512x2048.Idx → α) (x : S512x2048.Idx) (i : S2x512x2048.Idx) (h1 : (i 1).val = (x 0).val) (h2 : (i 2).val = (x 1).val) :
    bAt v i = v x := by
  have e1 : i 1 = x 0 := Fin.ext h1
  have e2 : i 2 = x 1 := Fin.ext h2
  unfold bAt
  rw [e1, e2]
  exact congrArg v (eq_ix2 x).symm
theorem kvG_of (Kd Vd : Dev nD → S2x2x512x1024.Idx → α) (i j : S4x2x2x512x2048.Idx) (h : ∀ k, (i k).val = (j k).val) : kvG Kd Vd i = kvG Kd Vd j :=
  congrArg _ (funext fun k => Fin.ext (h k))
theorem kvG_keys (Kd Vd : Dev nD → S2x2x512x1024.Idx → α) (i : S4x2x2x512x2048.Idx) (d : Dev nD) (x : S2x2x512x1024.Idx)
    (h0 : (i 0).val = d.val) (h1 : (i 1).val = (x 0).val) (h2 : (i 2).val = (x 1).val) (h3 : (i 3).val = (x 2).val) (h4 : (i 4).val = (x 3).val) :
    kvG Kd Vd i = Kd d x := by
  have hx : (x 3).val < 1024 := (x 3).isLt
  have e0 : i 0 = d := Fin.ext h0
  have e1 : i 1 = x 0 := Fin.ext h1
  have e2 : i 2 = x 1 := Fin.ext h2
  have e3 : i 3 = x 2 := Fin.ext h3
  have e4 : ∀ p, (⟨(i 4).val, p⟩ : Fin 1024) = x 3 := fun p => Fin.ext h4
  unfold kvG
  rw [dif_pos (show (i 4).val < 1024 by omega), e4, e0, e1, e2, e3]
  exact congrArg _ (eq_ix4 x).symm
theorem kvG_values (Kd Vd : Dev nD → S2x2x512x1024.Idx → α) (i : S4x2x2x512x2048.Idx) (d : Dev nD) (x : S2x2x512x1024.Idx)
    (h0 : (i 0).val = d.val) (h1 : (i 1).val = (x 0).val) (h2 : (i 2).val = (x 1).val) (h3 : (i 3).val = (x 2).val) (h4 : (i 4).val = 1024 + (x 3).val) :
    kvG Kd Vd i = Vd d x := by
  have e0 : i 0 = d := Fin.ext h0
  have e1 : i 1 = x 0 := Fin.ext h1
  have e2 : i 2 = x 1 := Fin.ext h2
  have e3 : i 3 = x 2 := Fin.ext h3
  have e4 : ∀ p, (⟨(i 4).val - 1024, p⟩ : Fin 1024) = x 3 := fun p => Fin.ext (by show (i 4).val - 1024 = (x 3).val; omega)
  unfold kvG
  rw [dif_neg (show ¬ (i 4).val < 1024 by omega), e4, e0, e1, e2, e3]
  exact congrArg _ (eq_ix4 x).symm

theorem read_slot (v : Vec F S512x2048 .f32) (s : Fin 2) : (slot M0.b s).view.read (Elt F) (bAt v) = v := by
  funext x
  show bAt v ((srect s).emb (Shape.reshapeEquiv _ x)) = v x
  rw [sub_1ab]
  exact bAt_of v x _ (unit_at0 _ 1 _ rfl rfl) (unit_at0 _ 2 _ rfl rfl)

theorem load_slot (v : Vec F S512x2048 .f32) (s : Fin 2) :
    shapeCast S512x2048 ((M0.b.access (srect s)).read (Elt F) (bAt v)) shapeCasts_S1x512x2048_S512x2048 = v := by
  funext x
  show bAt v ((srect s).emb (Shape.reshapeEquiv _ x)) = v x
  rw [sub_1ab]
  exact bAt_of v x _ (unit_at0 _ 1 _ rfl rfl) (unit_at0 _ 2 _ rfl rfl)

section Family
variable (Kd Vd : Dev nD → Vec F S2x2x512x1024 .f32)

theorem blk_val (d : Fin 4) (x y : Fin 2) (hin) (a : Fin 512) (b : Fin 2048) (k : Fin 5) :
    ((Rect.unit (s := S4x2x2x512x2048) ![d.val, x.val, y.val, 0, 0] S1x1x1x512x2048.size hin).emb (ix5 0 0 0 a b) k).val = (ix5 d x y a b k).val := by
  fin_cases k
  · exact unit_on _ 0 _ rfl rfl
  · exact unit_on _ 1 _ rfl rfl
  · exact unit_on _ 2 _ rfl rfl
  · exact unit_at0 _ 3 _ rfl rfl
  · exact unit_at0 _ 4 _ rfl rfl

/-- A block of the gathered buffer reads as the device's keys and values of the class. -/
theorem read_blk {off : Fin 5 → Nat} (hin) (d : Fin 4) (x y : Fin 2) (e : off = ![d.val, x.val, y.val, 0, 0]) :
    (blk M0.kv off hin).view.read (Elt F) (kvG Kd Vd) = blkVal Kd Vd d x y := by
  subst e
  funext z
  show kvG Kd Vd ((Rect.unit (s := S4x2x2x512x2048) ![d.val, x.val, y.val, 0, 0] S1x1x1x512x2048.size hin).emb (Shape.reshapeEquiv _ z)) = kvG Kd Vd _
  rw [sub_111ab]
  exact kvG_of Kd Vd _ _ (blk_val d x y hin (z 0) (z 1))

theorem part_val (d : Fin 4) (m : Nat) (hin) (a b : Fin 2) (c : Fin 512) (e : Fin 1024) (w : S4x2x2x512x2048.Idx)
    (hw : (Rect.unit (s := S4x2x2x512x2048) ![d.val, 0, 0, 0, m] S1x2x2x512x1024.size hin).emb (ix5 0 a b c e) = w) :
    (w 0).val = d.val ∧ (w 1).val = a.val ∧ (w 2).val = b.val ∧ (w 3).val = c.val ∧ (w 4).val = m + e.val := by
  subst hw
  refine ⟨?_, ?_, ?_, ?_, ?_⟩
  · exact unit_on _ 0 _ rfl rfl
  · exact unit_at0 _ 1 _ rfl rfl
  · exact unit_at0 _ 2 _ rfl rfl
  · exact unit_at0 _ 3 _ rfl rfl
  · exact unit_at _ 4 _ _ rfl rfl
theorem part_read (f : Vec F S4x2x2x512x2048 .f32) (d : Fin 4) (m : Nat) (hin) (z : S2x2x512x1024.Idx) :
    (part M0.kv ![d.val, 0, 0, 0, m] hin).view.read (Elt F) f z
      = f ((Rect.unit (s := S4x2x2x512x2048) ![d.val, 0, 0, 0, m] S1x2x2x512x1024.size hin).emb (ix5 0 (z 0) (z 1) (z 2) (z 3))) := by
  show f ((Rect.unit (s := S4x2x2x512x2048) ![d.val, 0, 0, 0, m] S1x2x2x512x1024.size hin).emb (Shape.reshapeEquiv _ z)) = _
  rw [sub_1abcd]
  rfl

/-- Each half of the gathered buffer's part for one device reads as the device's own array. -/
theorem read_part0 {off : Fin 5 → Nat} (hin) (d : Fin 4) (e : off = ![d.val, 0, 0, 0, 0]) :
    (part M0.kv off hin).view.read (Elt F) (kvG Kd Vd) = Kd d := by
  subst e
  funext z
  obtain ⟨w0, w1, w2, w3, w4⟩ := part_val d 0 hin (z 0) (z 1) (z 2) (z 3) _ rfl
  exact (part_read (kvG Kd Vd) d 0 hin z).trans (kvG_keys Kd Vd _ d z w0 w1 w2 w3 (w4.trans (Nat.zero_add _)))
theorem read_part1 {off : Fin 5 → Nat} (hin) (d : Fin 4) (e : off = ![d.val, 0, 0, 0, 1024]) :
    (part M0.kv off hin).view.read (Elt F) (kvG Kd Vd) = Vd d := by
  subst e
  funext z
  obtain ⟨w0, w1, w2, w3, w4⟩ := part_val d 1024 hin (z 0) (z 1) (z 2) (z 3) _ rfl
  exact (part_read (kvG Kd Vd) d 1024 hin z).trans (kvG_values Kd Vd _ d z w0 w1 w2 w3 w4)

theorem kcls_val (x y : Fin 2) (a : Fin 512) (b : Fin 1024) (w : S2x2x512x1024.Idx)
    (hw : (Rect.unit (s := S2x2x512x1024) ![x.val, y.val, 0, 0] S1x1x512x1024.size (inb_kcls x y)).emb (ix4 0 0 a b) = w) :
    (w 0).val = x.val ∧ (w 1).val = y.val ∧ (w 2).val = a.val ∧ (w 3).val = b.val := by
  subst hw
  refine ⟨?_, ?_, ?_, ?_⟩
  · exact unit_on _ 0 _ rfl rfl
  · exact unit_on _ 1 _ rfl rfl
  · exact unit_at0 _ 2 _ rfl rfl
  · exact unit_at0 _ 3 _ rfl rfl
theorem half_val (s j : Fin 2) (a : Fin 512) (b : Fin 1024) (w : S2x512x2048.Idx)
    (hw : (Rect.unit (s := S2x512x2048) ![s.val, 0, 1024 * j.val] S1x512x1024.size (inb_half s j)).emb (ix3 0 a b) = w) :
    (w 1).val = a.val ∧ (w 2).val = 1024 * j.val + b.val := by
  subst hw
  refine ⟨?_, ?_⟩
  · exact unit_at0 _ 1 _ rfl rfl
  · exact unit_at _ 2 _ _ rfl rfl

theorem half_read (v : Vec F S512x2048 .f32) (s j : Fin 2) (z : S512x1024.Idx) : (half M0.b s j).view.read (Elt F) (bAt v) z
    = bAt v ((Rect.unit (s := S2x512x2048) ![s.val, 0, 1024 * j.val] S1x512x1024.size (inb_half s j)).emb (ix3 0 (z 0) (z 1))) := by
  show bAt v ((Rect.unit (s := S2x512x2048) ![s.val, 0, 1024 * j.val] S1x512x1024.size (inb_half s j)).emb (Shape.reshapeEquiv _ z)) = _
  rw [sub_1ab']
  rfl
theorem kcls_read0 (K : Vec F S2x2x512x1024 .f32) (x y : Fin 2) (z : S512x1024.Idx) : (kcls M0.kk x y).view.read (Elt F) K z
    = K ((Rect.unit (s := S2x2x512x1024) ![x.val, y.val, 0, 0] S1x1x512x1024.size (inb_kcls x y)).emb (ix4 0 0 (z 0) (z 1))) := by
  show K ((Rect.unit (s := S2x2x512x1024) ![x.val, y.val, 0, 0] S1x1x512x1024.size (inb_kcls x y)).emb (Shape.reshapeEquiv _ z)) = _
  rw [sub_11ab]
  rfl
theorem kcls_read1 (K : Vec F S2x2x512x1024 .f32) (x y : Fin 2) (z : S512x1024.Idx) : (kcls M0.vv x y).view.read (Elt F) K z
    = K ((Rect.unit (s := S2x2x512x1024) ![x.val, y.val, 0, 0] S1x1x512x1024.size (inb_kcls x y)).emb (ix4 0 0 (z 0) (z 1))) := by
  show K ((Rect.unit (s := S2x2x512x1024) ![x.val, y.val, 0, 0] S1x1x512x1024.size (inb_kcls x y)).emb (Shape.reshapeEquiv _ z)) = _
  rw [sub_11ab]
  rfl
theorem bAt_blkVal (d : Dev nD) (x y : Fin 2) (u : S2x512x2048.Idx) : bAt (blkVal Kd Vd d x y) u = kvG Kd Vd (ix5 d x y (u 1) (u 2)) := rfl

/-- The halves of a slot holding a device's own block read as the rows of its arrays. -/
theorem read_half0 (s : Fin 2) (d : Dev nD) (x y : Fin 2) :
    (half M0.b s 0).view.read (Elt F) (bAt (blkVal Kd Vd d x y)) = (kcls M0.kk x y).view.read (Elt F) (Kd d) := by
  funext z
  rw [half_read, kcls_read0, bAt_blkVal]
  obtain ⟨w0, w1, w2, w3⟩ := kcls_val x y (z 0) (z 1) _ rfl
  obtain ⟨u1, u2⟩ := half_val s 0 (z 0) (z 1) _ rfl
  exact kvG_keys Kd Vd _ d _ rfl w0.symm w1.symm (u1.trans w2.symm) (u2.trans (Eq.trans (by rw [Fin.val_zero, Nat.mul_zero, Nat.zero_add]) w3.symm))
theorem read_half1 (s : Fin 2) (d : Dev nD) (x y : Fin 2) :
    (half M0.b s 1).view.read (Elt F) (bAt (blkVal Kd Vd d x y)) = (kcls M0.vv x y).view.read (Elt F) (Vd d) := by
  funext z
  rw [half_read, kcls_read1, bAt_blkVal]
  obtain ⟨w0, w1, w2, w3⟩ := kcls_val x y (z 0) (z 1) _ rfl
  obtain ⟨u1, u2⟩ := half_val s 1 (z 0) (z 1) _ rfl
  exact kvG_values Kd Vd _ d _ rfl w0.symm w1.symm (u1.trans w2.symm) (u2.trans (by rw [Fin.val_one, Nat.mul_one, w3]))

end Family

end Cert.KernelIdeal.Struct

end
-- ==== Proof.Proto.lean ====
/- The protocol between the devices: which cells hand over what, in which order they are waited for,
   and the levels that show no wait can block another for ever. -/
module

public import proofs.«01_k».proof.Proof.Slabs
public import proofs.«01_k».proof.Proof.Gen.KernelIdeal.Launch
public import Idealize.ShloMosaic.Lib.Rounds
public import Idealize.ShloMosaic.Lib.Transfers
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Lib.Tactic

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

/-- The talk's algebra: its cells, whose rounds have up to two duties, and the local copies' tokens. -/
abbrev UT : Type := URounds (GSem nD τ sig) (Fin 2) × Counters
/-- The certificate's algebra: the pipeline's and the talk's. -/
abbrev UU : Type := UR sig nD τ × UT

local notation "𝕄" => MT nD τ sig Unit (Elt F) ℕ UU ℕ

abbrev EP : Emb (UR sig nD τ) (MT nD τ sig Unit (Elt F) ℕ UU ℕ) := embL
def ER : Emb (URounds (GSem nD τ sig) (Fin 2)) (MT nD τ sig Unit (Elt F) ℕ UU ℕ) := (Emb.inl : Emb _ UT).trans embR
abbrev EC : UEmb Counters (MT nD τ sig Unit (Elt F) ℕ UU ℕ) := countersEmb
instance ER_landsIn : (ER (F := F)).LandsIn (upEmb : UEmb _ 𝕄) := by unfold ER; infer_instance

/-! ### The ring -/

/-- The neighbour on the left, on the right, and the device across. -/
def lft (c : Dev nD) : Dev nD := ⟨(c.val + 3) % 4, Nat.mod_lt _ (by decide)⟩
def rgt (c : Dev nD) : Dev nD := ⟨(c.val + 1) % 4, Nat.mod_lt _ (by decide)⟩
def opp (c : Dev nD) : Dev nD := ⟨(c.val + 2) % 4, Nat.mod_lt _ (by decide)⟩
theorem rgt_lft (c : Dev nD) : rgt (lft c) = c := by revert c; decide
theorem lft_rgt (c : Dev nD) : lft (rgt c) = c := by revert c; decide
theorem opp_rgt (c : Dev nD) : opp (rgt c) = lft c := by revert c; decide
theorem opp_lft (c : Dev nD) : opp (lft c) = rgt c := by revert c; decide

/-! ### Cells -/

abbrev barC (c : Dev nD) : GSem nD τ sig := ((c : Thread nD τ), .reg bar)
abbrev s1C (c : Dev nD) (i : Fin 4) : GSem nD τ sig := ((c : Thread nD τ), .dma (sem4 M0.s1 i))
abbrev r1C (c : Dev nD) (i : Fin 4) : GSem nD τ sig := ((c : Thread nD τ), .dma (sem4 M0.r1 i))
abbrev s2C (c : Dev nD) (i : Fin 4) : GSem nD τ sig := ((c : Thread nD τ), .dma (sem4 M0.s2 i))
abbrev r2C (c : Dev nD) (i : Fin 4) : GSem nD τ sig := ((c : Thread nD τ), .dma (sem4 M0.r2 i))

/-- The first exchange's amount and the second's. -/
def N1 : ℕ := M0.kk.view.dmaCredit
def N2 : ℕ := (slot M0.b 0).view.dmaCredit
theorem N1_pos : 0 < N1 := View.dmaCredit_pos _ (by decide)
theorem N2_pos : 0 < N2 := View.dmaCredit_pos _ (by decide)

/-! ### Contents -/

/-- The cells of the gathered buffer that hold one device's keys (`0`) or values (`1`); one class of one device; one device. -/
def pset (d : Dev nD) (j : Fin 2) : Finset S4x2x2x512x2048.Idx := Finset.univ.filter fun i => (i 0).val = d.val ∧ (i 4).val / 1024 = j.val
def bset (d : Dev nD) (x y : Fin 2) : Finset S4x2x2x512x2048.Idx := Finset.univ.filter fun i => (i 0).val = d.val ∧ (i 1).val = x.val ∧ (i 2).val = y.val
def dset (d : Dev nD) : Finset S4x2x2x512x2048.Idx := Finset.univ.filter fun i => (i 0).val = d.val

theorem part_set {off : Fin 5 → Nat} (hin) (d : Dev nD) (j : Fin 2) (e : off = ![d.val, 0, 0, 0, 1024 * j.val]) :
    ((part M0.kv off hin).view.set : Finset S4x2x2x512x2048.Idx) = pset d j := by
  ext i; rw [mem_part hin d j e, pset, Finset.mem_filter]; simp
theorem blk_set {off : Fin 5 → Nat} (hin) (d : Dev nD) (x y : Fin 2) (e : off = ![d.val, x.val, y.val, 0, 0]) :
    ((blk M0.kv off hin).view.set : Finset S4x2x2x512x2048.Idx) = bset d x y := by
  ext i; rw [mem_blk hin d x y e, bset, Finset.mem_filter]; simp

abbrev kvP (c : Dev nD) (S : Finset S4x2x2x512x2048.Idx) (q : PosShare TreeShare) (f : Vec F S4x2x2x512x2048 .f32) : sProp 𝕄 :=
  (M0.kv.view.loc (c : Thread nD τ)) ↦[S]{q} f
abbrev kkP (Kd : Dev nD → Vec F S2x2x512x1024 .f32) (c : Dev nD) (q : PosShare TreeShare) : sProp 𝕄 :=
  (M0.kk.view.loc (c : Thread nD τ)) ↦[M0.kk.view.set]{q} Kd c
abbrev vvP (Vd : Dev nD → Vec F S2x2x512x1024 .f32) (c : Dev nD) (q : PosShare TreeShare) : sProp 𝕄 :=
  (M0.vv.view.loc (c : Thread nD τ)) ↦[M0.vv.view.set]{q} Vd c

variable (Kd Vd : Dev nD → Vec F S2x2x512x1024 .f32)

/-- What the barrier's signal from `e` hands to `n`: the places at `e` that `n`'s copies will land in, and that the cells they
    complete on are ready. (`e` is `n`'s right neighbour for `x = 0` and its left for `x = 1`.) -/
def place (e n : Dev nD) (x : Fin 2) (i j k l : Fin 4) : sProp 𝕄 :=
  iprop((∃ f, kvP e (pset n 0) fullShare f) ∗ (∃ f, kvP e (pset n 1) fullShare f)
    ∗ (∃ f, kvP e (bset (opp e) x 0) fullShare f) ∗ (∃ f, kvP e (bset (opp e) x 1) fullShare f)
    ∗ reached ER (r1C e i) 0 ∗ reached ER (r1C e j) 0 ∗ reached ER (r2C e k) 0 ∗ reached ER (r2C e l) 0)
def barPay (n : Dev nD) (d : Fin 2) : sProp 𝕄 :=
  if d = 0 then place (rgt n) n 0 2 3 0 1 else place (lft n) n 1 0 1 2 3

/-- The shares of a device's own arrays: read out to the left, to the right, and by the copies into each slot. -/
abbrev shL : PosShare TreeShare := fullShare.left
abbrev shR : PosShare TreeShare := fullShare.right.left
def shO (s : Fin 2) : PosShare TreeShare := if s = 0 then fullShare.right.right.left else fullShare.right.right.right

/-- What the copies' completions hand over, by semaphore. -/
def dmaPay (c : Dev nD) : Nat → sProp 𝕄
  | 7 => kkP Kd c shL
  | 8 => vvP Vd c shL
  | 9 => kkP Kd c shR
  | 10 => vvP Vd c shR
  | 11 => kvP c (pset (rgt c) 0) fullShare (kvG Kd Vd)
  | 12 => kvP c (pset (rgt c) 1) fullShare (kvG Kd Vd)
  | 13 => kvP c (pset (lft c) 0) fullShare (kvG Kd Vd)
  | 14 => kvP c (pset (lft c) 1) fullShare (kvG Kd Vd)
  | 15 => kvP c (bset (lft c) 0 0) fullShare.left (kvG Kd Vd)
  | 16 => kvP c (bset (lft c) 0 1) fullShare.left (kvG Kd Vd)
  | 17 => kvP c (bset (rgt c) 1 0) fullShare.left (kvG Kd Vd)
  | 18 => kvP c (bset (rgt c) 1 1) fullShare.left (kvG Kd Vd)
  | 19 => kvP c (bset (opp c) 0 0) fullShare (kvG Kd Vd)
  | 20 => kvP c (bset (opp c) 0 1) fullShare (kvG Kd Vd)
  | 21 => kvP c (bset (opp c) 1 0) fullShare (kvG Kd Vd)
  | 22 => kvP c (bset (opp c) 1 1) fullShare (kvG Kd Vd)
  | _ => iprop(emp)

/-- Which duties a semaphore's one round has; how much each pays. -/
def dutiesOf : SemLoc sig → Finset (Fin 2)
  | .reg _ => Finset.univ
  | .dma k => if 7 ≤ k.val then {0} else ∅
def amountOf : SemLoc sig → ℕ
  | .reg _ => 1
  | .dma k => if k.val < 15 then N1 else N2
def payOf (c : Dev nD) (sm : SemLoc sig) (d : Fin 2) : sProp 𝕄 :=
  match sm with
  | .reg _ => barPay c d
  | .dma k => dmaPay Kd Vd c k.val

theorem amountOf_pos (sm : SemLoc sig) : 0 < amountOf sm := by
  cases sm with
  | reg _ => exact Nat.one_pos
  | dma k => unfold amountOf; dsimp only; split; exacts [N1_pos, N2_pos]

/-- One round on every cell of the talk. -/
def sched : Rounds.Schedule (GSem nD τ sig) (Fin 2) 𝕄 where
  duties g r := if r = 0 ∧ g.1.2 = .tc then dutiesOf g.2 else ∅
  unitless _ := False
  amount g _ _ := amountOf g.2
  payload g _ d := payOf Kd Vd g.1.1 g.2 d
  amount_pos g _ _ _ := amountOf_pos g.2

instance dmaPay_storable (c : Dev nD) (n : Nat) : BI.Storable (upEmb : UEmb _ 𝕄) (dmaPay Kd Vd c n) := by
  unfold dmaPay
  split <;> infer_instance
instance barPay_storable (c : Dev nD) (d : Fin 2) : BI.Storable (upEmb : UEmb _ 𝕄) (barPay (F := F) c d) := by
  unfold barPay place
  split <;> infer_instance
instance sched_storable (g : GSem nD τ sig) (r : ℕ) (d : Fin 2) : BI.Storable (upEmb : UEmb _ 𝕄) ((sched Kd Vd).payload g r d) := by
  show BI.Storable upEmb (payOf Kd Vd g.1.1 g.2 d)
  unfold payOf
  split <;> infer_instance

section Sched
variable (c : Dev nD)

theorem duties_tc (sm : SemLoc sig) : (sched Kd Vd).duties ((c : Thread nD τ), sm) 0 = dutiesOf sm := by
  dsimp only [sched]; exact if_pos ⟨rfl, rfl⟩
theorem duties_later (g : GSem nD τ sig) (r : ℕ) (hr : 1 ≤ r) : (sched Kd Vd).duties g r = ∅ := if_neg fun h => by omega
theorem amount_tc (sm : SemLoc sig) (d : Fin 2) : (sched Kd Vd).amount ((c : Thread nD τ), sm) 0 d = amountOf sm := rfl
theorem payload_tc (sm : SemLoc sig) (d : Fin 2) : (sched Kd Vd).payload ((c : Thread nD τ), sm) 0 d = payOf Kd Vd c sm d := rfl

theorem expect_bar : (sched Kd Vd).expect (barC c) 0 = 2 := by
  unfold Schedule.expect Schedule.amountOf; rw [duties_tc]; rfl
theorem expect_dma (k : DmaSem sig) (h : 7 ≤ k.val) : (sched Kd Vd).expect ((c : Thread nD τ), .dma k) 0 = amountOf (.dma k) := by
  unfold Schedule.expect Schedule.amountOf; rw [duties_tc, dutiesOf, if_pos h, Finset.sum_singleton]; rfl
theorem mem_dma (k : DmaSem sig) (h : 7 ≤ k.val) : (0 : Fin 2) ∈ (sched Kd Vd).duties ((c : Thread nD τ), .dma k) 0 := by
  rw [duties_tc, dutiesOf, if_pos h]; exact Finset.mem_singleton_self _
theorem mem_bar (d : Fin 2) : d ∈ (sched Kd Vd).duties (barC c) 0 := by
  rw [duties_tc]; exact Finset.mem_univ d
theorem rest_bar : bigSep ((sched Kd Vd).duties (barC c) 0 \ ∅) (fun d => (sched Kd Vd).payload (barC c) 0 d)
    = iprop(place (rgt c) c 0 2 3 0 1 ∗ place (lft c) c 1 0 1 2 3) := by
  rw [Finset.sdiff_empty, duties_tc]
  exact BI.bigSep_fin_two (fun d : Fin 2 => (barPay c d : sProp 𝕄))
theorem rest_dma (k : DmaSem sig) (h : 7 ≤ k.val) :
    bigSep ((sched Kd Vd).duties ((c : Thread nD τ), .dma k) 0 \ ∅) (fun d => (sched Kd Vd).payload ((c : Thread nD τ), .dma k) 0 d) = dmaPay Kd Vd c k.val := by
  rw [Finset.sdiff_empty, duties_tc, dutiesOf, if_pos h, bigSep_singleton]; rfl
end Sched

/-! ### What is owed, and the levels -/

/-- The payments a device makes, the last first: the semaphore, the device and the amount. -/
def paySem : Nat → SemLoc sig
  | 0 => .dma (sem4 M0.r2 3) | 1 => .dma (sem4 M0.r2 2) | 2 => .dma (sem4 M0.r2 1) | 3 => .dma (sem4 M0.r2 0)
  | 4 => .dma (sem4 M0.r1 3) | 5 => .dma (sem4 M0.r1 2) | 6 => .dma (sem4 M0.r1 1) | 7 => .dma (sem4 M0.r1 0)
  | _ => .reg bar
def payDev (c : Dev nD) : Nat → Dev nD
  | 0 => lft c | 1 => lft c | 2 => rgt c | 3 => rgt c
  | 4 => rgt c | 5 => rgt c | 6 => lft c | 7 => lft c
  | 8 => rgt c | _ => lft c
abbrev payCell (c : Dev nD) (k : Nat) : GSem nD τ sig := ((payDev c k : Thread nD τ), paySem k)
/-- What is still owed before the last `n` payments. -/
def own (c : Dev nD) : Nat → CellTallies nD τ sig Unit
  | 0 => 0
  | n + 1 => own c n + tallyAt (payCell c n) () (amountOf (paySem n))

def lvs : SemLoc sig → ℕ
  | .reg _ => 1
  | .dma k => if 19 ≤ k.val then 3 else if 11 ≤ k.val ∧ k.val ≤ 14 then 2 else 0
def L (g : GSem nD τ sig) : Finset Unit := if g.1.2 = .tc then {()} else ∅
def lv (g : GSem nD τ sig) (_ : Unit) : ℕ := lvs g.2
theorem L_of_ne (g : GSem nD τ sig) (h : g.1.2 ≠ .tc) : L g = ∅ := if_neg h
theorem L_tc (c : Dev nD) (sm : SemLoc sig) : L ((c : Thread nD τ), sm) = {()} := if_pos rfl

theorem own_pos (c : Dev nD) : ∀ (n : Nat) (g : GSem nD τ sig) (u : Unit), 0 < own c n g u → ∃ k, k < n ∧ g = payCell c k
  | 0, g, u, h => absurd h (Nat.lt_irrefl 0)
  | n + 1, g, u, h => by
    unfold own at h
    rw [Pi.add_apply, Finsupp.add_apply, tallyAt_apply] at h
    by_cases hg : g = payCell c n ∧ u = ()
    · exact ⟨n, Nat.lt_succ_self n, hg.1⟩
    · rw [if_neg hg, Nat.add_zero] at h
      obtain ⟨k, hk, e⟩ := own_pos c n g u h
      exact ⟨k, Nat.lt_succ_of_lt hk, e⟩

/-- A device may wait on a cell below everything it still owes. -/
theorem mayWait (c : Dev nD) (sm : SemLoc sig) (n : Nat) (h : ∀ k, k < n → lvs sm < lvs (paySem k)) :
    (levAts L lv : sProp 𝕄) ⊢ MayWait (c : Thread nD τ) sm () (own c n) :=
  MayOwe.of_cut (L := L) (lev := lv) (lvs sm) (fun p hp => by rw [Finset.mem_singleton.mp hp, L_tc]; exact Finset.mem_singleton_self _)
    (fun g u hg => by obtain ⟨k, _, rfl⟩ := own_pos c n g u hg; rw [L_tc]; exact Finset.mem_singleton_self _)
    (fun p hp => by rw [Finset.mem_singleton.mp hp]; exact le_refl _)
    (fun g u hg => by obtain ⟨k, hk, rfl⟩ := own_pos c n g u hg; exact h k hk)

/-! ### The cells' records -/

def arr4 : Fin 4 → DmaSems sig S4 := fun | 0 => M0.s1 | 1 => M0.r1 | 2 => M0.s2 | 3 => M0.r2
abbrev osemT (ai : Fin 4 × Fin 4) : SemLoc sig := .dma (sem4 (arr4 ai.1) ai.2)
theorem osemT_inj : Function.Injective osemT := by decide
theorem seven_le (ai : Fin 4 × Fin 4) : 7 ≤ (sem4 (arr4 ai.1) ai.2).val := by revert ai; decide

def barEmb : Dev nD ↪ GSem nD τ sig := ⟨barC, fun c d h => by
  have h1 : (c : Thread nD τ) = (d : Thread nD τ) := congrArg Prod.fst h
  exact congrArg Prod.fst h1⟩
def scEmb : Dev nD × (Fin 4 × Fin 4) ↪ GSem nD τ sig := ⟨fun p => ((p.1 : Thread nD τ), osemT p.2), fun p p' h => by
  have h1 : (p.1 : Thread nD τ) = (p'.1 : Thread nD τ) := congrArg Prod.fst h
  have h2 : p.1 = p'.1 := congrArg (fun t : Thread nD τ => t.1) h1
  exact Prod.ext h2 (osemT_inj (congrArg Prod.snd h))⟩
def barCells : Finset (GSem nD τ sig) := Finset.univ.map barEmb
def scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem sc_mem (c : Dev nD) (ai : Fin 4 × Fin 4) : ((c : Thread nD τ), osemT ai) ∈ (barCells ∪ scCells : Finset (GSem nD τ sig)) :=
  Finset.mem_union_right _ (Finset.mem_map_of_mem scEmb (Finset.mem_univ (c, ai)))

/-- Every cell's invariant, at the names the launch gave them. -/
def recs (κ : GSem nD τ sig → ℕ) : sProp 𝕄 := bigSep (barCells ∪ scCells) fun g => cellInv ER (sched Kd Vd) (κ g) g
instance recs_persistent (κ : GSem nD τ sig → ℕ) : BI.Persistent (recs Kd Vd κ) := by unfold recs; infer_instance
theorem inv_bar (κ : GSem nD τ sig → ℕ) (c : Dev nD) : recs Kd Vd κ ⊢ cellInv ER (sched Kd Vd) (κ (barC c)) (barC c) := bigSep_elim (bar_mem c)
theorem inv_sc (κ : GSem nD τ sig → ℕ) (c : Dev nD) (ai : Fin 4 × Fin 4) :
    recs Kd Vd κ ⊢ cellInv ER (sched Kd Vd) (κ ((c : Thread nD τ), osemT ai)) ((c : Thread nD τ), osemT ai) := bigSep_elim (sc_mem c ai)

end Cert.KernelIdeal.Struct

end
-- ==== Proof.Local.lean ====
/- The copies within a device: a class of its own keys and values, or a gathered block, into a slot of
   the working buffer, started and waited for. -/
module

public import proofs.«01_k».proof.Proof.Proto

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx
open Cert.KernelIdeal.Gen

variable {F : FTy → Type} [FloatOps F]

local notation "𝕄" => MT nD τ sig Unit (Elt F) ℕ UU ℕ

abbrev 𝒱₀ : Variants := Variants.none

/-- The run of a part of the body on device `c`. -/
abbrev WP (c : Dev nD) (p : P F) (Q : PUnit → sProp 𝕄) : sProp 𝕄 := wp frame (wpE defs₀ 𝒱₀ (c : Thread nD τ) none) Set.univ p Q

variable (Kd Vd : Dev nD → Vec F S2x2x512x1024 .f32)

/-- What a device still owes, whatever it has waited for. -/
def Ow (c : Dev nD) (n : Nat) : sProp 𝕄 := iprop(∃ W, owes (c : Thread nD τ) (own c n) W)

/-- A slot of the working buffer at contents `f`; a local copy's counter at rest. -/
abbrev slotP (c : Dev nD) (s : Fin 2) (f : Vec F S2x512x2048 .f32) : sProp 𝕄 :=
  (M0.b.view.loc (c : Thread nD τ)) ↦[(slot M0.b s).view.set]{fullShare} f
abbrev halfP (c : Dev nD) (s j : Fin 2) (f : Vec F S2x512x2048 .f32) : sProp 𝕄 :=
  (M0.b.view.loc (c : Thread nD τ)) ↦[(half M0.b s j).view.set]{fullShare} f
abbrev dmV (c : Dev nD) (s j : Fin 2) : sProp 𝕄 := semVal ((c : Thread nD τ), .dma (sem22 M0.dm s j)) 0
/-- A slot holding a block. -/
abbrev slotB (c : Dev nD) (s : Fin 2) (d : Dev nD) (x y : Fin 2) : sProp 𝕄 := slotP c s (bAt (blkVal Kd Vd d x y))

theorem pay_pos (k : Nat) : 0 < lvs (paySem k) := by
  rcases k with _ | _ | _ | _ | _ | _ | _ | _ | k
  all_goals first | decide | exact Nat.one_pos
theorem dm_lv (s j : Fin 2) : lvs (.dma (sem22 M0.dm s j)) = 0 := by revert s j; decide

/-- A local copy's counter may be waited for whatever is owed. -/
theorem mayWait_dm (c : Dev nD) (s j : Fin 2) (n : Nat) :
    (levAts L lv : sProp 𝕄) ⊢ MayWait (c : Thread nD τ) (.dma (sem22 M0.dm s j)) () (own c n) :=
  mayWait c _ n fun k _ => by rw [dm_lv]; exact pay_pos k

/-! ### A gathered block -/

/-- A block on its way into a slot. -/
def GetFl (c : Dev nD) (s : Fin 2) (d : Dev nD) (x y : Fin 2) (q : PosShare TreeShare) : sProp 𝕄 :=
  Flight EC (c : Thread nD τ) (.dma (sem22 M0.dm s 0)) () N2 iprop(slotB Kd Vd c s d x y ∗ kvP c (bset d x y) q (kvG Kd Vd))

theorem wp_get (c : Dev nD) (s : Fin 2) (d : Dev nD) (x y : Fin 2) {off : Fin 5 → Nat} (hin) (e : off = ![d.val, x.val, y.val, 0, 0])
    (q : PosShare TreeShare) (f : Vec F S2x512x2048 .f32) (k : PUnit → P F) (Q : PUnit → sProp 𝕄) :
    slotP c s f ⊢ iprop(kvP c (bset d x y) q (kvG Kd Vd) -∗ dmV c s 0 -∗ (GetFl Kd Vd c s d x y q -∗ WP c (k ⟨⟩) Q)
      -∗ WP c (get M0 s off hin >>= k) Q) := by
  have hset := blk_set hin d x y e
  have hread := read_blk Kd Vd hin d x y e
  unfold get GetFl
  rw [Prog.bind_lift]
  iintro Hs Hk Hd Hc
  iapply (Transfers.wp_dmaLocal EC 𝒱₀ (c : Thread nD τ) none (src := blk M0.kv off hin) (dst := slot M0.b s) (fs := kvG Kd Vd) (q := q)
    (Sd := (slot M0.b s).view.set) (fd := f) () N2 rfl N2_pos subset_rfl) $$ [Hs Hk Hd]
  · rw [hset]
    isplitl [Hk]; · iexact Hk
    isplitl [Hs] <;> iassumption
  iintro H
  iapply Hc
  have e1 : (slotP c s ((slot M0.b s).view.write (Elt F) f ((blk M0.kv off hin).view.read (Elt F) (kvG Kd Vd)) Finset.univ) : sProp 𝕄)
      = slotB Kd Vd c s d x y := pointsTo_congr (write_univ_on _ ((read_slot _ s).trans hread.symm))
  iapply (Entails.of_eq (congrArg (Flight EC (c : Thread nD τ) (.dma (sem22 M0.dm s 0)) () N2)
    (show iprop(slotP c s ((slot M0.b s).view.write (Elt F) f ((blk M0.kv off hin).view.read (Elt F) (kvG Kd Vd)) Finset.univ)
      ∗ kvP c ((blk M0.kv off hin).view.set) q (kvG Kd Vd)) = iprop(slotB Kd Vd c s d x y ∗ kvP c (bset d x y) q (kvG Kd Vd)) from by rw [e1, hset])))
  iexact H

theorem wp_got (c : Dev nD) (s : Fin 2) (d : Dev nD) (x y : Fin 2) {off : Fin 5 → Nat} (hin)
    (q : PosShare TreeShare) (n : Nat) (k : PUnit → P F) (Q : PUnit → sProp 𝕄) :
    levAts L lv ⊢ iprop(GetFl Kd Vd c s d x y q -∗ Ow c n
      -∗ (slotB Kd Vd c s d x y -∗ kvP c (bset d x y) q (kvG Kd Vd) -∗ dmV c s 0 -∗ Ow c n -∗ WP c (k ⟨⟩) Q)
      -∗ WP c (got M0 s off hin >>= k) Q) := by
  unfold got GetFl Ow
  rw [Prog.bind_lift]
  iintro #Hlev Hf ⟨%W, HO⟩ Hc
  iapply (Transfers.wp_waitLocalO EC 𝒱₀ (c : Thread nD τ) none (dstw := slot M0.b s) (N := N2) () rfl) $$ [Hf HO]
  · isplitl [Hf]; · iexact Hf
    isplitl [HO]; · iexact HO
    iapply (mayWait_dm c s 0 n); iexact Hlev
  iintro ⟨⟨Hs, Hk⟩, Hv, HO⟩
  iapply Hc $$ Hs Hk Hv
  iexists _; iexact HO

/-! ### A class of the device's own -/

theorem half_disj (s : Fin 2) : Disjoint ((half M0.b s 0).view.set : Finset S2x512x2048.Idx) ((half M0.b s 1).view.set : Finset S2x512x2048.Idx) := by
  rw [Finset.disjoint_left]
  intro i h h'
  rw [mem_half] at h h'
  exact absurd (h.2.symm.trans h'.2) (by decide)
theorem half_union (s : Fin 2) : ((slot M0.b s).view.set : Finset S2x512x2048.Idx) = (half M0.b s 0).view.set ∪ (half M0.b s 1).view.set := by
  ext i
  have h2 : (i 2).val < 2048 := (i 2).isLt
  rw [Finset.mem_union]
  refine (mem_slot s i).trans (Iff.trans ?_ (or_congr (mem_half s 0 i) (mem_half s 1 i)).symm)
  rw [Fin.val_zero, Fin.val_one]
  omega
theorem slot_halves (c : Dev nD) (s : Fin 2) (f : Vec F S2x512x2048 .f32) :
    (slotP c s f : sProp 𝕄) ⊣⊢ iprop(halfP c s 0 f ∗ halfP c s 1 f) := by
  have h := pointsTo_union (nD := nD) (τ := τ) (sig := sig) (Ix := Unit) (Val := Elt F) (Name := ℕ) (U := UU) (Lvl := ℕ)
    (ℓ := M0.b.view.loc (c : Thread nD τ)) (q := fullShare) (f := f) (half_disj s)
  rw [← half_union s] at h
  exact h

abbrev keysRest (c : Dev nD) (x y : Fin 2) (q : PosShare TreeShare) : sProp 𝕄 :=
  (M0.kk.view.loc (c : Thread nD τ)) ↦[M0.kk.view.set \ (kcls M0.kk x y).view.set]{q} Kd c
abbrev valsRest (c : Dev nD) (x y : Fin 2) (q : PosShare TreeShare) : sProp 𝕄 :=
  (M0.vv.view.loc (c : Thread nD τ)) ↦[M0.vv.view.set \ (kcls M0.vv x y).view.set]{q} Vd c
abbrev keysCls (c : Dev nD) (x y : Fin 2) (q : PosShare TreeShare) : sProp 𝕄 :=
  (M0.kk.view.loc (c : Thread nD τ)) ↦[(kcls M0.kk x y).view.set]{q} Kd c
abbrev valsCls (c : Dev nD) (x y : Fin 2) (q : PosShare TreeShare) : sProp 𝕄 :=
  (M0.vv.view.loc (c : Thread nD τ)) ↦[(kcls M0.vv x y).view.set]{q} Vd c

theorem kk_split (c : Dev nD) (x y : Fin 2) (q : PosShare TreeShare) : (kkP Kd c q : sProp 𝕄) ⊣⊢ iprop(keysCls Kd c x y q ∗ keysRest Kd c x y q) :=
  pointsTo_split_subset (by rw [show M0.kk.view.set = (Finset.univ : Finset _) from View.set_whole _]; exact Finset.subset_univ _)
theorem vv_split (c : Dev nD) (x y : Fin 2) (q : PosShare TreeShare) : (vvP Vd c q : sProp 𝕄) ⊣⊢ iprop(valsCls Vd c x y q ∗ valsRest Vd c x y q) :=
  pointsTo_split_subset (by rw [show M0.vv.view.set = (Finset.univ : Finset _) from View.set_whole _]; exact Finset.subset_univ _)

/-- The amount of one half's copy. -/
def NL : ℕ := (half M0.b 0 0).view.dmaCredit
theorem NL_pos : 0 < NL := View.dmaCredit_pos _ (by decide)

/-- A class of the device's own on its way into a slot. -/
def OwnFl (c : Dev nD) (s x y : Fin 2) : sProp 𝕄 :=
  iprop(Flight EC (c : Thread nD τ) (.dma (sem22 M0.dm s 0)) () NL iprop(halfP c s 0 (bAt (blkVal Kd Vd c x y)) ∗ keysCls Kd c x y (shO s))
    ∗ Flight EC (c : Thread nD τ) (.dma (sem22 M0.dm s 1)) () NL iprop(halfP c s 1 (bAt (blkVal Kd Vd c x y)) ∗ valsCls Vd c x y (shO s))
    ∗ keysRest Kd c x y (shO s) ∗ valsRest Vd c x y (shO s))

theorem wp_getOwn (c : Dev nD) (s x y : Fin 2) (f : Vec F S2x512x2048 .f32) (k : PUnit → P F) (Q : PUnit → sProp 𝕄) :
    slotP c s f ⊢ iprop(kkP Kd c (shO s) -∗ vvP Vd c (shO s) -∗ dmV c s 0 -∗ dmV c s 1 -∗ (OwnFl Kd Vd c s x y -∗ WP c (k ⟨⟩) Q)
      -∗ WP c (getOwn M0 s x y >>= k) Q) := by
  unfold getOwn OwnFl
  simp only [Prog.lift, Prog.bind_op, Prog.bind_ret]
  iintro Hs Hkk Hvv Hd0 Hd1 Hc
  ihave Hs' := (slot_halves c s f).1 $$ Hs
  icases Hs' with ⟨H0, H1⟩
  ihave Hk' := (kk_split Kd c x y (shO s)).1 $$ Hkk
  icases Hk' with ⟨HkC, HkR⟩
  ihave Hv' := (vv_split Vd c x y (shO s)).1 $$ Hvv
  icases Hv' with ⟨HvC, HvR⟩
  iapply (Transfers.wp_dmaLocal EC 𝒱₀ (c : Thread nD τ) none (src := kcls M0.kk x y) (dst := half M0.b s 0) (fs := Kd c) (q := shO s)
    (Sd := (half M0.b s 0).view.set) (fd := f) () NL rfl NL_pos subset_rfl) $$ [H0 HkC Hd0]
  · isplitl [HkC]; · iexact HkC
    isplitl [H0] <;> iassumption
  iintro HF0
  iapply (Transfers.wp_dmaLocal EC 𝒱₀ (c : Thread nD τ) none (src := kcls M0.vv x y) (dst := half M0.b s 1) (fs := Vd c) (q := shO s)
    (Sd := (half M0.b s 1).view.set) (fd := f) () NL rfl NL_pos subset_rfl) $$ [H1 HvC Hd1]
  · isplitl [HvC]; · iexact HvC
    isplitl [H1] <;> iassumption
  iintro HF1
  iapply Hc
  have e0 : (halfP c s 0 ((half M0.b s 0).view.write (Elt F) f ((kcls M0.kk x y).view.read (Elt F) (Kd c)) Finset.univ) : sProp 𝕄)
      = halfP c s 0 (bAt (blkVal Kd Vd c x y)) := pointsTo_congr (write_univ_on _ (read_half0 Kd Vd s c x y))
  have e1 : (halfP c s 1 ((half M0.b s 1).view.write (Elt F) f ((kcls M0.vv x y).view.read (Elt F) (Vd c)) Finset.univ) : sProp 𝕄)
      = halfP c s 1 (bAt (blkVal Kd Vd c x y)) := pointsTo_congr (write_univ_on _ (read_half1 Kd Vd s c x y))
  rw [← e0, ← e1]
  isplitl [HF0]; · iexact HF0
  isplitl [HF1]; · iexact HF1
  isplitl [HkR] <;> iassumption

theorem wp_gotOwn (c : Dev nD) (s x y : Fin 2) (n : Nat) (k : PUnit → P F) (Q : PUnit → sProp 𝕄) :
    levAts L lv ⊢ iprop(OwnFl Kd Vd c s x y -∗ Ow c n
      -∗ (slotB Kd Vd c s c x y -∗ kkP Kd c (shO s) -∗ vvP Vd c (shO s) -∗ dmV c s 0 -∗ dmV c s 1 -∗ Ow c n -∗ WP c (k ⟨⟩) Q)
      -∗ WP c (gotOwn M0 s x y >>= k) Q) := by
  unfold gotOwn OwnFl Ow
  simp only [Prog.lift, Prog.bind_op, Prog.bind_ret]
  iintro #Hlev ⟨HF0, HF1, HkR, HvR⟩ ⟨%W, HO⟩ Hc
  iapply (Transfers.wp_waitLocalO EC 𝒱₀ (c : Thread nD τ) none (dstw := half M0.b s 0) (N := NL) () rfl) $$ [HF0 HO]
  · isplitl [HF0]; · iexact HF0
    isplitl [HO]; · iexact HO
    iapply (mayWait_dm c s 0 n); iexact Hlev
  iintro ⟨⟨H0, HkC⟩, Hd0, HO⟩
  iapply (Transfers.wp_waitLocalO EC 𝒱₀ (c : Thread nD τ) none (dstw := half M0.b s 1) (N := NL) () rfl) $$ [HF1 HO]
  · isplitl [HF1]; · iexact HF1
    isplitl [HO]; · iexact HO
    iapply (mayWait_dm c s 1 n); iexact Hlev
  iintro ⟨⟨H1, HvC⟩, Hd1, HO⟩
  iapply Hc $$ [H0 H1] [HkC HkR] [HvC HvR] Hd0 Hd1
  · iapply (slot_halves c s _).2; isplitl [H0] <;> iassumption
  · iapply (kk_split Kd c x y (shO s)).2; isplitl [HkC] <;> iassumption
  · iapply (vv_split Vd c x y (shO s)).2; isplitl [HvC] <;> iassumption
  iexists _; iexact HO

end Cert.KernelIdeal.Struct

end
-- ==== Proof.Remote.lean ====
/- The copies between devices: the handshake at the start, the sends, and the waits for what arrives and
   for what has been read out. -/
module

public import proofs.«01_k».proof.Proof.Local

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (Kd Vd : Dev nD → Vec F S2x2x512x1024 .f32) (κ : GSem nD τ sig → ℕ)

/-- The tokens of a send from `c` to `t` on cell `i` of the first exchange; of the second. -/
def tok1 (c t : Dev nD) (i : Fin 4) : sProp 𝕄 := iprop(dutyTok ER (s1C c i) 0 0 ∗ dutyTok ER (r1C t i) 0 0)
def tok2 (c t : Dev nD) (i : Fin 4) : sProp 𝕄 := iprop(dutyTok ER (s2C c i) 0 0 ∗ dutyTok ER (r2C t i) 0 0)

theorem amt_s1 (i : Fin 4) : amountOf (.dma (sem4 M0.s1 i)) = N1 := by fin_cases i <;> rfl
theorem amt_r1 (i : Fin 4) : amountOf (.dma (sem4 M0.r1 i)) = N1 := by fin_cases i <;> rfl
theorem amt_s2 (i : Fin 4) : amountOf (.dma (sem4 M0.s2 i)) = N2 := by fin_cases i <;> rfl
theorem amt_r2 (i : Fin 4) : amountOf (.dma (sem4 M0.r2 i)) = N2 := by fin_cases i <;> rfl

/-- A whole array sent to a neighbour: its share is handed back by the send cell, and the neighbour is handed the part of the
    gathered buffer that holds it. -/
theorem wp_put (c n t : Dev nD) (hn : n = t) (i : Fin 4) (j : Fin 2) {off : Fin 5 → Nat} (hin) (e : off = ![c.val, 0, 0, 0, 1024 * j.val])
    (src : Memref sig .tc .hbm S2x2x512x1024 .f32) (hs : src.IsWhole) (q : PosShare TreeShare) (fs : Buf (Elt F) (src.view.loc (c : Thread nD τ)))
    (hread : (part M0.kv off hin).view.read (Elt F) (kvG Kd Vd) = src.view.read (Elt F) fs)
    (hsrc : dmaPay Kd Vd c (sem4 M0.s1 i).val = (src.view.loc (c : Thread nD τ) ↦[src.view.set]{q} fs))
    (hdst : dmaPay Kd Vd t (sem4 M0.r1 i).val = kvP t (pset c j) fullShare (kvG Kd Vd))
    (m : Nat) (hm : payCell c m = r1C t i) (k : PUnit → P F) (Q : PUnit → sProp 𝕄) :
    recs Kd Vd κ ⊢ iprop((src.view.loc (c : Thread nD τ) ↦[src.view.set]{q} fs) -∗ (∃ f, kvP t (pset c j) fullShare f) -∗ Ow c (m + 1)
      -∗ tok1 c t i -∗ reached ER (s1C c i) 0 -∗ reached ER (r1C t i) 0
      -∗ (cred (tallyAt (s1C c i) () N1) -∗ Ow c m -∗ WP c (k ⟨⟩) Q)
      -∗ WP c (put M0 src hs n i off hin >>= k) Q) := by
  subst hn
  have hset := part_set hin c j e
  have hsem : paySem m = .dma (sem4 M0.r1 i) := congrArg Prod.snd hm
  unfold put Ow tok1
  rw [Prog.bind_lift]
  iintro #HR Hs ⟨%f, Hd⟩ ⟨%W, HO⟩ ⟨Ht1, Ht2⟩ #Hr1 #Hr2 Hc
  ihave #HI1 := (inv_sc Kd Vd κ c (0, i)) $$ HR
  ihave #HI2 := (inv_sc Kd Vd κ n (1, i)) $$ HR
  iapply (Rounds.wp_send_pointsTo 𝒱₀ ER (sched Kd Vd) (c : Thread nD τ) none (c' := (n : Thread nD τ)) (src := src) (dst := part M0.kv off hin)
    (sS := .dma (sem4 M0.s1 i)) (sem := .dma (sem4 M0.r1 i)) (q := q) (fs := fs) (fd := f)
    (κ₁ := κ (s1C c i)) (κ₂ := κ (r1C n i)) (r₁ := 0) (r₂ := 0) (d₁ := 0) (d₂ := 0)
    (mem_dma Kd Vd c _ (seven_le (0, i))) (mem_dma Kd Vd n _ (seven_le (1, i))) () () N1 rfl (amt_s1 i) (amt_r1 i) (own c m)
    (by show own c m + tallyAt (payCell c m) () (amountOf (paySem m)) = _; rw [hm, hsem, amt_r1])
    (W := W)
    (Entails.of_eq hsrc.symm)
    (Entails.of_eq (by
      refine Eq.trans ?_ hdst.symm
      rw [hset]
      exact pointsTo_congr (fun a ha => write_univ_on (part M0.kv off hin).view hread a (hset ▸ ha))))) $$ [Hs Hd HO Ht1 Ht2]
  · rw [hset]
    isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hc $$ Hcr
  iexists W; iexact HO

/-- A gathered block sent on to a neighbour. -/
theorem wp_fwd (c n t : Dev nD) (hn : n = t) (i : Fin 4) (d : Dev nD) (x y : Fin 2) {off : Fin 5 → Nat} (hin) (e : off = ![d.val, x.val, y.val, 0, 0])
    (hsrc : dmaPay Kd Vd c (sem4 M0.s2 i).val = kvP c (bset d x y) fullShare.left (kvG Kd Vd))
    (hdst : dmaPay Kd Vd t (sem4 M0.r2 i).val = kvP t (bset d x y) fullShare (kvG Kd Vd))
    (m : Nat) (hm : payCell c m = r2C t i) (k : PUnit → P F) (Q : PUnit → sProp 𝕄) :
    recs Kd Vd κ ⊢ iprop(kvP c (bset d x y) fullShare.left (kvG Kd Vd) -∗ (∃ f, kvP t (bset d x y) fullShare f) -∗ Ow c (m + 1)
      -∗ tok2 c t i -∗ reached ER (s2C c i) 0 -∗ reached ER (r2C t i) 0
      -∗ (cred (tallyAt (s2C c i) () N2) -∗ Ow c m -∗ WP c (k ⟨⟩) Q)
      -∗ WP c (fwd M0 n i off hin >>= k) Q) := by
  subst hn
  have hset := blk_set hin d x y e
  have hsem : paySem m = .dma (sem4 M0.r2 i) := congrArg Prod.snd hm
  unfold fwd Ow tok2
  rw [Prog.bind_lift]
  iintro #HR Hs ⟨%f, Hd⟩ ⟨%W, HO⟩ ⟨Ht1, Ht2⟩ #Hr1 #Hr2 Hc
  ihave #HI1 := (inv_sc Kd Vd κ c (2, i)) $$ HR
  ihave #HI2 := (inv_sc Kd Vd κ n (3, i)) $$ HR
  iapply (Rounds.wp_send_pointsTo 𝒱₀ ER (sched Kd Vd) (c : Thread nD τ) none (c' := (n : Thread nD τ)) (src := blk M0.kv off hin) (dst := blk M0.kv off hin)
    (sS := .dma (sem4 M0.s2 i)) (sem := .dma (sem4 M0.r2 i)) (q := fullShare.left) (fs := kvG Kd Vd) (fd := f)
    (κ₁ := κ (s2C c i)) (κ₂ := κ (r2C n i)) (r₁ := 0) (r₂ := 0) (d₁ := 0) (d₂ := 0)
    (mem_dma Kd Vd c _ (seven_le (2, i))) (mem_dma Kd Vd n _ (seven_le (3, i))) () () N2 rfl (amt_s2 i) (amt_r2 i) (own c m)
    (by show own c m + tallyAt (payCell c m) () (amountOf (paySem m)) = _; rw [hm, hsem, amt_r2])
    (W := W)
    (Entails.of_eq (by rw [hset]; exact hsrc.symm))
    (Entails.of_eq (by
      refine Eq.trans ?_ hdst.symm
      rw [hset]
      exact pointsTo_congr (fun a ha => write_univ_on (blk M0.kv off hin).view rfl a (hset ▸ ha))))) $$ [Hs Hd HO Ht1 Ht2]
  · rw [hset]
    isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hc $$ Hcr
  iexists W; iexact HO

/-- A wait on a cell of the talk: its payload. -/
theorem wp_take (c : Dev nD) (ai : Fin 4 × Fin 4) (n : Nat) (hlev : ∀ k, k < n → lvs (osemT ai) < lvs (paySem k)) {sp sp' : Space} {s s' : Shape} {e e' : EltTy}
    {src : Memref sig .tc sp' s' e'} {dst : Memref sig .tc sp s e} {h h'} (N : ℕ) (hN : dst.view.dmaCredit = N) (ha : amountOf (osemT ai) = N)
    (X : sProp 𝕄) (hX : dmaPay Kd Vd c (sem4 (arr4 ai.1) ai.2).val = X)
    (k : PUnit → P F) (Q : PUnit → sProp 𝕄) :
    recs Kd Vd κ ⊢ iprop(levAts L lv -∗ cred (tallyAt ((c : Thread nD τ), osemT ai) () N) -∗ Ow c n -∗ atPos ER ((c : Thread nD τ), osemT ai) 0 ∅ 0
      -∗ (X -∗ Ow c n -∗ atPos ER ((c : Thread nD τ), osemT ai) 1 ∅ 0 -∗ WP c (k ⟨⟩) Q)
      -∗ WP c (Prog.lift (.waitDma2 (sem4 (arr4 ai.1) ai.2) src dst h h') >>= k) Q) := by
  subst hN hX
  unfold Ow
  rw [Prog.bind_lift]
  iintro #HR #Hlev Hcr ⟨%W, HO⟩ Hat Hc
  ihave #HI := (inv_sc Kd Vd κ c ai) $$ HR
  iapply (Rounds.wp_wait_rest_token 𝒱₀ ER (sched Kd Vd) (c : Thread nD τ) none (κ := κ ((c : Thread nD τ), osemT ai))
    (wpE_waitDma2_eq 𝒱₀ (c : Thread nD τ) none Set.univ) (Set.mem_univ _) () (O := own c n) (W := W) (R := 0) (m := 0) (T := ∅)
    ((Nat.zero_add _).trans (ha.symm.trans (expect_dma Kd Vd c _ (seven_le ai)).symm))) $$ [Hcr HO Hat]
  · isplitr; · iexact HI
    isplitl [Hcr]; · iexact Hcr
    isplitl [HO]; · iexact HO
    isplitr; · iapply (mayWait c (osemT ai) n hlev); iexact Hlev
    iexact Hat
  iintro ⟨HO, Hat, -, Hpay⟩
  ihave Hp := (Entails.of_eq (rest_dma Kd Vd c _ (seven_le ai))) $$ Hpay
  iapply Hc $$ Hp [HO]
  · iexists _; iexact HO
  iexact Hat

/-- The handshake: each neighbour is told where its copies may land, and both have told this device. -/
theorem wp_handshake (c n n' : Dev nD) (hn : n = lft c) (hn' : n' = rgt c) (k : PUnit → P F) (Q : PUnit → sProp 𝕄) :
    recs Kd Vd κ ⊢ iprop(levAts L lv -∗ place c (lft c) 0 2 3 0 1 -∗ place c (rgt c) 1 0 1 2 3
      -∗ dutyTok ER (barC (lft c)) 0 0 -∗ dutyTok ER (barC (rgt c)) 0 1 -∗ reached ER (barC (lft c)) 0 -∗ reached ER (barC (rgt c)) 0
      -∗ cred (tallyAt (barC c) () 2) -∗ Ow c 10 -∗ atPos ER (barC c) 0 ∅ 0
      -∗ (place (rgt c) c 0 2 3 0 1 -∗ place (lft c) c 1 0 1 2 3 -∗ Ow c 8 -∗ atPos ER (barC c) 1 ∅ 0 -∗ WP c (k ⟨⟩) Q)
      -∗ WP c (semSignalWord n bar 1#32 >>= fun _ => semSignalWord n' bar 1#32 >>= fun _ => semWaitWord bar 2#32 >>= k) Q) := by
  subst hn hn'
  simp only [semSignalWord, semWaitWord, Prog.lift, Prog.bind_op, Prog.bind_ret, Prog.pure_eq_ret]
  unfold Ow
  iintro #HR #Hlev Hp1 Hp2 Ht1 Ht2 #Hr1 #Hr2 Hcr ⟨%W, HO⟩ Hat Hc
  ihave #HI0 := (inv_bar Kd Vd κ c) $$ HR
  ihave #HI1 := (inv_bar Kd Vd κ (lft c)) $$ HR
  ihave #HI2 := (inv_bar Kd Vd κ (rgt c)) $$ HR
  iapply (Rounds.wp_signal 𝒱₀ ER (sched Kd Vd) (c : Thread nD τ) none (dst := (lft c : Thread nD τ)) (sem := bar) (r := 0) (d := 0) (κ := κ (barC (lft c)))
    (mem_bar Kd Vd (lft c) 0) (show _ = (1#32).toNat from rfl) () (own c 9) rfl) $$ [HO Ht1 Hp1]
  · isplitr; · iexact HI1
    isplitl [HO]; · iexact HO
    isplitl [Ht1]; · iexact Ht1
    isplitl [Hp1]
    · iapply (Entails.of_eq (show place c (lft c) 0 2 3 0 1 = (sched Kd Vd).payload (barC (lft c)) 0 0 from by
        show _ = place (rgt (lft c)) (lft c) 0 2 3 0 1
        rw [rgt_lft])); iexact Hp1
    iexact Hr1
  iintro HO
  iapply (Rounds.wp_signal 𝒱₀ ER (sched Kd Vd) (c : Thread nD τ) none (dst := (rgt c : Thread nD τ)) (sem := bar) (r := 0) (d := 1) (κ := κ (barC (rgt c)))
    (mem_bar Kd Vd (rgt c) 1) (show _ = (1#32).toNat from rfl) () (own c 8) rfl) $$ [HO Ht2 Hp2]
  · isplitr; · iexact HI2
    isplitl [HO]; · iexact HO
    isplitl [Ht2]; · iexact Ht2
    isplitl [Hp2]
    · iapply (Entails.of_eq (show place c (rgt c) 1 0 1 2 3 = (sched Kd Vd).payload (barC (rgt c)) 0 1 from by
        show _ = place (lft (rgt c)) (rgt c) 1 0 1 2 3
        rw [lft_rgt])); iexact Hp2
    iexact Hr2
  iintro HO
  iapply (Rounds.wp_wait_rest_token 𝒱₀ ER (sched Kd Vd) (c : Thread nD τ) none (κ := κ (barC c))
    (wpE_semWait_eq 𝒱₀ (c : Thread nD τ) none Set.univ) (Set.mem_univ _) () (O := own c 8) (W := W) (R := 0) (m := 0) (T := ∅)
    ((Nat.zero_add _).trans (expect_bar Kd Vd c).symm)) $$ [Hcr HO Hat]
  · isplitr; · iexact HI0
    isplitl [Hcr]; · iexact Hcr
    isplitl [HO]; · iexact HO
    isplitr; · iapply (mayWait c (.reg bar) 8 (by decide)); iexact Hlev
    iexact Hat
  iintro ⟨HO, Hat, -, Hpay⟩
  ihave Hp := (Entails.of_eq (rest_bar Kd Vd c)) $$ Hpay
  icases Hp with ⟨Ha, Hb⟩
  iapply Hc $$ Ha Hb [HO]
  · iexists _; iexact HO
  iexact Hat

end Cert.KernelIdeal.Struct

end
-- ==== Proof.Arith.lean ====
/- The body's arithmetic: the queries, the sixteen rounds of attention and the divisions, as steps on
   the state "each class has met its first so many blocks". -/
module

public import proofs.«01_k».proof.Proof.Remote

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ### The values -/

/-- The device whose block is met at the `t`-th meeting of a class. -/
def ord (c : Dev nD) : ℕ → Dev nD
  | 0 => c
  | 1 => lft c
  | 2 => rgt c
  | _ => opp c
/-- A class's two coordinates. -/
def xo (s : Fin 4) : Fin 2 := ⟨s.val / 2, by omega⟩
def yo (s : Fin 4) : Fin 2 := ⟨s.val % 2, by omega⟩

/-- The rows of one class, read from the staged array. -/
def xcls (X : Vec F S4x512x1024 .f32) (s : Fin 4) : Vec F S1x512x1024 .f32 := (M0.xs.access (crect s)).read (Elt F) X
/-- The queries of one class. -/
def qryOf (X : Vec F S4x512x1024 .f32) (W : Vec F S1024x1024 .f32) (s : Fin 4) : Vec F S1x512x1024 .f32 := qrow W (xcls X s)

section Values
variable (Kd Vd : Dev nD → Vec F S2x2x512x1024 .f32) (c : Dev nD) (qy : Fin 4 → Vec F S1x512x1024 .f32)

/-- The block met, the queries' class, and the weights of one meeting. -/
def blkOf (s : Fin 4) (t : ℕ) : FVec F S512x2048 .f32 := blkVal Kd Vd (ord c t) (xo s) (yo s)
def qcl (s : Fin 4) : FVec F S512x1024 .f32 := shapeCast S512x1024 (qy s) shapeCasts_S1x512x1024_S512x1024
def wgtOf (s : Fin 4) (h : Fin 8) (t : ℕ) : FVec F S512x512 .f32 := wgt (qcl qy s) (blkOf Kd Vd c s t) h

/-- The accumulated weights after `t` meetings; the accumulated outputs. -/
def lf (s : Fin 4) (h : Fin 8) : ℕ → Vec F S1x1x512x128 .f32
  | 0 => fun _ => Scalar.ofBits .f32 0x00000000#32
  | t + 1 => lnew (wgtOf Kd Vd c qy s h t) (lf s h t)
def of (s : Fin 4) (h : Fin 8) : ℕ → Vec F S1x512x128 .f32
  | 0 => fun _ => Scalar.ofBits .f32 0x00000000#32
  | t + 1 => onew (wgtOf Kd Vd c qy s h t) (blkOf Kd Vd c s t) h (of s h t)

/-- Both, when class `s` has met `n s` blocks; at five the quotient has been taken. -/
def lg (n : Fin 4 → ℕ) (s : Fin 4) (h : Fin 8) : Vec F S1x1x512x128 .f32 := lf Kd Vd c qy s h (min (n s) 4)
def og (n : Fin 4 → ℕ) (s : Fin 4) (h : Fin 8) : Vec F S1x512x128 .f32 :=
  if n s = 5 then quot (of Kd Vd c qy s h 4) (lf Kd Vd c qy s h 4) else of Kd Vd c qy s h (n s)
/-- The device's result. -/
def oFin : Vec F S4x512x1024 .f32 := oAt (og Kd Vd c qy fun _ => 5)
end Values

/-! ### The state -/

abbrev oP (c : Dev nD) (f : Vec F S4x512x1024 .f32) : sProp 𝕄 := (M0.o.view.loc (c : Thread nD τ)) ↦{fullShare} f
abbrev lP (c : Dev nD) (f : Vec F S4x8x512x128 .f32) : sProp 𝕄 := (M0.l.view.loc (c : Thread nD τ)) ↦{fullShare} f
abbrev qP (c : Dev nD) (f : Vec F S4x512x1024 .f32) : sProp 𝕄 := (M0.q.view.loc (c : Thread nD τ)) ↦{fullShare} f
abbrev xP (c : Dev nD) (f : Vec F S4x512x1024 .f32) : sProp 𝕄 := (M0.xs.view.loc (c : Thread nD τ)) ↦{fullShare} f
abbrev wP (c : Dev nD) (f : Vec F S1024x1024 .f32) : sProp 𝕄 := (M0.wq.view.loc (c : Thread nD τ)) ↦{fullShare} f

theorem wp_head (c : Dev nD) (s : Fin 4) (qc : FVec F S512x1024 .f32) (kvc : FVec F S512x2048 .f32) (h : Fin 8)
    (g : Fin 4 → Fin 8 → Vec F S1x512x128 .f32) (g' : Fin 4 → Fin 8 → Vec F S1x1x512x128 .f32) (k : PUnit → P F) (Q : PUnit → sProp 𝕄) :
    iprop(oP c (oAt g) ∗ lP c (lAt g'))
      ⊢ iprop((iprop(oP c (oAt (upd g s h (onew (wgt qc kvc h) kvc h (g s h)))) ∗ lP c (lAt (upd g' s h (lnew (wgt qc kvc h) (g' s h))))) -∗ WP c (k ⟨⟩) Q)
        -∗ WP c (head M0 s qc kvc h >>= k) Q) := by
  unfold head
  simp only [Prog.lift, Prog.bind_op, Prog.bind_ret]
  iintro ⟨Ho, Hl⟩ Hc
  iapply (wp_load_rect 𝒱₀ (c : Thread nD τ) none Set.univ (m := M0.l) (r := lrect s h) (Finset.subset_univ _)) $$ Hl
  iintro Hl
  iapply (wp_load_rect 𝒱₀ (c : Thread nD τ) none Set.univ (m := M0.l) (r := lrect s h) (Finset.subset_univ _)) $$ Hl
  iintro Hl
  iapply (wp_store 𝒱₀ (c : Thread nD τ) none Set.univ (m := M0.l) (r := lrect s h) (Finset.subset_univ _)) $$ Hl
  iintro Hl
  iapply (wp_load_rect 𝒱₀ (c : Thread nD τ) none Set.univ (m := M0.o) (r := orect s h) (Finset.subset_univ _)) $$ Ho
  iintro Ho
  iapply (wp_load_rect 𝒱₀ (c : Thread nD τ) none Set.univ (m := M0.o) (r := orect s h) (Finset.subset_univ _)) $$ Ho
  iintro Ho
  iapply (wp_store 𝒱₀ (c : Thread nD τ) none Set.univ (m := M0.o) (r := orect s h) (Finset.subset_univ _)) $$ Ho
  iintro Ho
  rw [read_o, read_l, write_o, write_l]
  iapply Hc
  isplitl [Ho] <;> iassumption

theorem wp_dive (c : Dev nD) (s : Fin 4) (h : Fin 8)
    (g : Fin 4 → Fin 8 → Vec F S1x512x128 .f32) (g' : Fin 4 → Fin 8 → Vec F S1x1x512x128 .f32) (k : PUnit → P F) (Q : PUnit → sProp 𝕄) :
    iprop(oP c (oAt g) ∗ lP c (lAt g'))
      ⊢ iprop((iprop(oP c (oAt (upd g s h (quot (g s h) (g' s h)))) ∗ lP c (lAt g')) -∗ WP c (k ⟨⟩) Q)
        -∗ WP c (dive M0 s h >>= k) Q) := by
  unfold dive
  simp only [Prog.lift, Prog.bind_op, Prog.bind_ret]
  iintro ⟨Ho, Hl⟩ Hc
  iapply (wp_load_rect 𝒱₀ (c : Thread nD τ) none Set.univ (m := M0.o) (r := orect s h) (Finset.subset_univ _)) $$ Ho
  iintro Ho
  iapply (wp_load_rect 𝒱₀ (c : Thread nD τ) none Set.univ (m := M0.l) (r := lrect s h) (Finset.subset_univ _)) $$ Hl
  iintro Hl
  iapply (wp_load_rect 𝒱₀ (c : Thread nD τ) none Set.univ (m := M0.o) (r := orect s h) (Finset.subset_univ _)) $$ Ho
  iintro Ho
  iapply (wp_store 𝒱₀ (c : Thread nD τ) none Set.univ (m := M0.o) (r := orect s h) (Finset.subset_univ _)) $$ Ho
  iintro Ho
  rw [read_o, read_l, write_o]
  iapply Hc
  isplitl [Ho] <;> iassumption

/-- Eight steps, one per head. -/
theorem wp_heads (c : Dev nD) (f : Fin 8 → P F) (R : ℕ → sProp 𝕄)
    (hf : ∀ (h : Fin 8) (k : PUnit → P F) (Q : PUnit → sProp 𝕄), R h.val ⊢ iprop((R (h.val + 1) -∗ WP c (k ⟨⟩) Q) -∗ WP c (f h >>= k) Q))
    (k : PUnit → P F) (Q : PUnit → sProp 𝕄) : R 0 ⊢ iprop((R 8 -∗ WP c (k ⟨⟩) Q) -∗ WP c (heads f >>= k) Q) := by
  unfold heads
  simp only [Prog.bind_assoc]
  have step : ∀ (i j : ℕ) (h : Fin 8) (hi : h.val = i) (hj : i + 1 = j) (k : PUnit → P F) (Q : PUnit → sProp 𝕄), R i ⊢ iprop((R j -∗ WP c (k ⟨⟩) Q) -∗ WP c (f h >>= k) Q) := fun i j h hi hj k Q => by subst hi hj; exact hf h k Q
  iintro H Hc
  iapply (step 0 1 0 rfl rfl _ _) $$ H
  iintro H
  iapply (step 1 2 1 rfl rfl _ _) $$ H
  iintro H
  iapply (step 2 3 2 rfl rfl _ _) $$ H
  iintro H
  iapply (step 3 4 3 rfl rfl _ _) $$ H
  iintro H
  iapply (step 4 5 4 rfl rfl _ _) $$ H
  iintro H
  iapply (step 5 6 5 rfl rfl _ _) $$ H
  iintro H
  iapply (step 6 7 6 rfl rfl _ _) $$ H
  iintro H
  iapply (step 7 8 7 rfl rfl _ _) $$ H
  iintro H
  iapply Hc; iexact H

/-- The first `k` heads of one class replaced. -/
def mix {β : Type} (s : Fin 4) (g v : Fin 4 → Fin 8 → β) (k : ℕ) : Fin 4 → Fin 8 → β := fun s' h' => if s' = s ∧ h'.val < k then v s h' else g s' h'
theorem mix_zero {β : Type} (s : Fin 4) (g v : Fin 4 → Fin 8 → β) : mix s g v 0 = g := by
  funext s' h'; exact if_neg fun h => absurd h.2 (Nat.not_lt_zero _)
theorem mix_self {β : Type} (s : Fin 4) (g v : Fin 4 → Fin 8 → β) (h : Fin 8) : mix s g v h.val s h = g s h := if_neg fun H => absurd H.2 (Nat.lt_irrefl _)
theorem upd_mix {β : Type} (s : Fin 4) (g v : Fin 4 → Fin 8 → β) (h : Fin 8) : upd (mix s g v h.val) s h (v s h) = mix s g v (h.val + 1) := by
  funext s' h'
  unfold upd mix
  by_cases h1 : s' = s
  · subst h1
    by_cases h2 : h' = h
    · subst h2; rw [if_pos ⟨rfl, rfl⟩, if_pos ⟨rfl, Nat.lt_succ_self _⟩]
    · have h3 : h'.val ≠ h.val := fun e => h2 (Fin.ext e)
      rw [if_neg (fun H => h2 H.2)]
      by_cases h4 : h'.val < h.val
      · rw [if_pos ⟨rfl, h4⟩, if_pos ⟨rfl, by omega⟩]
      · rw [if_neg (fun H => h4 H.2), if_neg (fun H => by have := H.2; omega)]
  · rw [if_neg (fun H => h1 H.1), if_neg (fun H => h1 H.1), if_neg (fun H => h1 H.1)]
theorem mix_eight {β : Type} (s : Fin 4) (g v : Fin 4 → Fin 8 → β) (h : ∀ s', s' ≠ s → g s' = v s') : mix s g v 8 = v := by
  funext s' h'
  unfold mix
  by_cases h1 : s' = s
  · subst h1; exact if_pos ⟨rfl, h'.isLt⟩
  · rw [if_neg (fun H => h1 H.1), h s' h1]

section State
variable (Kd Vd : Dev nD → Vec F S2x2x512x1024 .f32) (c : Dev nD) (qy : Fin 4 → Vec F S1x512x1024 .f32)

/-- Class `s` has met its first `n s` blocks. -/
def St (n : Fin 4 → ℕ) : sProp 𝕄 := iprop(oP c (oAt (og Kd Vd c qy n)) ∗ lP c (lAt (lg Kd Vd c qy n)) ∗ qP c (qAt qy))

theorem slot_sub (s : Fin 2) : ((M0.b.access (srect s)).set : Finset _) ⊆ (slot M0.b s).view.set := by
  intro i hi
  have e : ((slot M0.b s).view.set : Finset S2x512x2048.Idx) = (srect s).set := (View.set_reshape _ _).trans (View.set_slice_whole cc0_scratch1 (srect s))
  have e' : ((M0.b.access (srect s)).set : Finset S2x512x2048.Idx) = (srect s).set := View.set_slice_whole cc0_scratch1 (srect s)
  rw [e]; rw [e'] at hi; exact hi

theorem wp_round (sl : Fin 2) (s : Fin 4) (d : Dev nD) (x y : Fin 2) (n n' : Fin 4 → ℕ) (hx : x = xo s) (hy : y = yo s) (hd : d = ord c (n s)) (hn : n s < 4)
    (hn' : n' = fun s' => if s' = s then n s + 1 else n s') (k : PUnit → P F) (Q : PUnit → sProp 𝕄) :
    St Kd Vd c qy n ⊢ iprop(slotB Kd Vd c sl d x y -∗ (St Kd Vd c qy n' -∗ slotB Kd Vd c sl d x y -∗ WP c (k ⟨⟩) Q)
      -∗ WP c (round M0 sl s >>= k) Q) := by
  subst hx hy hd
  unfold St round
  simp only [Prog.lift, Prog.bind_op, Prog.bind_ret]
  iintro ⟨Ho, Hl, Hq⟩ Hb Hc
  iapply (wp_load_rect 𝒱₀ (c : Thread nD τ) none Set.univ (m := M0.b) (r := srect sl) (slot_sub sl)) $$ Hb
  iintro Hb
  iapply (wp_load_rect 𝒱₀ (c : Thread nD τ) none Set.univ (m := M0.q) (r := crect s) (Finset.subset_univ _)) $$ Hq
  iintro Hq
  rw [load_slot, read_q]
  have e1 : n' s = n s + 1 := by rw [hn']; exact if_pos rfl
  have e2 : ∀ s', s' ≠ s → n' s' = n s' := fun s' h => by rw [hn']; exact if_neg h
  have ho : ∀ h, onew (wgt (qcl qy s) (blkOf Kd Vd c s (n s)) h) (blkOf Kd Vd c s (n s)) h (og Kd Vd c qy n s h) = og Kd Vd c qy n' s h := fun h => by
    unfold og; rw [e1, if_neg (by omega), if_neg (by omega)]; rfl
  have hl : ∀ h, lnew (wgt (qcl qy s) (blkOf Kd Vd c s (n s)) h) (lg Kd Vd c qy n s h) = lg Kd Vd c qy n' s h := fun h => by
    unfold lg; rw [e1, Nat.min_eq_left (by omega), Nat.min_eq_left (by omega)]; rfl
  have H := wp_heads c (head M0 s (qcl qy s) (blkOf Kd Vd c s (n s)))
    (fun j => iprop(oP c (oAt (mix s (og Kd Vd c qy n) (og Kd Vd c qy n') j)) ∗ lP c (lAt (mix s (lg Kd Vd c qy n) (lg Kd Vd c qy n') j))))
    (fun h k Q => by
      have := wp_head c s (qcl qy s) (blkOf Kd Vd c s (n s)) h (mix s (og Kd Vd c qy n) (og Kd Vd c qy n') h.val) (mix s (lg Kd Vd c qy n) (lg Kd Vd c qy n') h.val) k Q
      rw [mix_self, mix_self, ho, hl, upd_mix, upd_mix] at this
      exact this) k Q
  rw [mix_zero, mix_zero, mix_eight s _ _ (fun s' h => by funext h'; unfold og; rw [e2 s' h]), mix_eight s _ _ (fun s' h => by funext h'; unfold lg; rw [e2 s' h])] at H
  iapply H $$ [Ho Hl]
  · isplitl [Ho] <;> iassumption
  iintro ⟨Ho, Hl⟩
  iapply Hc $$ [Ho Hl Hq] Hb
  isplitl [Ho]; · iexact Ho
  isplitl [Hl] <;> iassumption

theorem wp_divide (s : Fin 4) (n n' : Fin 4 → ℕ) (hn : n s = 4)
    (hn' : n' = fun s' => if s' = s then 5 else n s') (k : PUnit → P F) (Q : PUnit → sProp 𝕄) :
    St Kd Vd c qy n ⊢ iprop((St Kd Vd c qy n' -∗ WP c (k ⟨⟩) Q) -∗ WP c (heads (dive M0 s) >>= k) Q) := by
  unfold St
  iintro ⟨Ho, Hl, Hq⟩ Hc
  have e1 : n' s = 5 := by rw [hn']; exact if_pos rfl
  have e2 : ∀ s', s' ≠ s → n' s' = n s' := fun s' h => by rw [hn']; exact if_neg h
  have ho : ∀ h, quot (og Kd Vd c qy n s h) (lg Kd Vd c qy n s h) = og Kd Vd c qy n' s h := fun h => by
    unfold og lg; rw [e1, hn, if_neg (by omega), if_pos rfl]; rfl
  have hl : lg Kd Vd c qy n' = lg Kd Vd c qy n := by
    funext s' h'
    unfold lg
    by_cases h : s' = s
    · subst h; rw [e1, hn]
      rfl
    · rw [e2 s' h]
  have H := wp_heads c (dive M0 s)
    (fun j => iprop(oP c (oAt (mix s (og Kd Vd c qy n) (og Kd Vd c qy n') j)) ∗ lP c (lAt (lg Kd Vd c qy n))))
    (fun h k Q => by
      have := wp_dive c s h (mix s (og Kd Vd c qy n) (og Kd Vd c qy n') h.val) (lg Kd Vd c qy n) k Q
      rw [mix_self, ho, upd_mix] at this
      exact this) k Q
  rw [mix_zero, mix_eight s _ _ (fun s' h => by funext h'; unfold og; rw [e2 s' h])] at H
  iapply H $$ [Ho Hl]
  · isplitl [Ho] <;> iassumption
  iintro ⟨Ho, Hl⟩
  iapply Hc
  rw [hl]
  isplitl [Ho]; · iexact Ho
  isplitl [Hl] <;> iassumption

theorem wp_query (X : Vec F S4x512x1024 .f32) (W : Vec F S1024x1024 .f32) (s : Fin 4) (g : Fin 4 → Vec F S1x512x1024 .f32) (k : PUnit → P F) (Q : PUnit → sProp 𝕄) :
    qP c (qAt g) ⊢ iprop(xP c X -∗ (qP c (qAt (upq g s (qryOf X W s))) -∗ xP c X -∗ WP c (k ⟨⟩) Q) -∗ WP c (query M0 W s >>= k) Q) := by
  unfold query qryOf xcls
  simp only [Prog.lift, Prog.bind_op, Prog.bind_ret]
  iintro Hq Hx Hc
  iapply (wp_load_rect 𝒱₀ (c : Thread nD τ) none Set.univ (m := M0.xs) (r := crect s) (Finset.subset_univ _)) $$ Hx
  iintro Hx
  iapply (wp_load_rect 𝒱₀ (c : Thread nD τ) none Set.univ (m := M0.q) (r := crect s) (Finset.subset_univ _)) $$ Hq
  iintro Hq
  iapply (wp_store 𝒱₀ (c : Thread nD τ) none Set.univ (m := M0.q) (r := crect s) (Finset.subset_univ _)) $$ Hq
  iintro Hq
  rw [write_q]
  iapply Hc $$ Hq Hx

theorem upq_four {β : Type} (g v : Fin 4 → β) : upq (upq (upq (upq g 0 (v 0)) 1 (v 1)) 2 (v 2)) 3 (v 3) = v := by
  funext s; fin_cases s <;> rfl

theorem wp_start (X : Vec F S4x512x1024 .f32) (W : Vec F S1024x1024 .f32) (f1 f3 : Vec F S4x512x1024 .f32) (f2 : Vec F S4x8x512x128 .f32)
    (k : PUnit → P F) (Q : PUnit → sProp 𝕄) :
    oP c f1 ⊢ iprop(lP c f2 -∗ qP c f3 -∗ xP c X -∗ wP c W -∗ (St Kd Vd c (qryOf X W) (fun _ => 0) -∗ xP c X -∗ wP c W -∗ WP c (k ⟨⟩) Q) -∗ WP c (start M0 >>= k) Q) := by
  unfold start St
  simp only [Prog.lift, Prog.bind_op, Prog.bind_ret, Prog.bind_assoc]
  iintro Ho Hl Hq Hx Hw Hc
  iapply (wp_load 𝒱₀ (c : Thread nD τ) none Set.univ (m := M0.wq) (Finset.subset_univ _)) $$ Hw
  iintro Hw
  have eW : M0.wq.view.readAt (Elt F) (Rect.unit ![0, 0] ![1024, 1024] inb_S1024x1024_S1024x1024_0_0).toLoadRect W = W :=
    Memref.readAt_unit_zero (Elt F) cc0_stg1_0 (by decide) _ W
  rw [eW, eq_qAt f3]
  iapply (wp_query c X W 0 _ _ _) $$ Hq Hx
  iintro Hq Hx
  iapply (wp_query c X W 1 _ _ _) $$ Hq Hx
  iintro Hq Hx
  iapply (wp_query c X W 2 _ _ _) $$ Hq Hx
  iintro Hq Hx
  iapply (wp_query c X W 3 _ _ _) $$ Hq Hx
  iintro Hq Hx
  rw [upq_four]
  iapply (wp_load_rect 𝒱₀ (c : Thread nD τ) none Set.univ (m := M0.o) (r := (Rect.unit ![0, 0, 0] ![4, 512, 1024] inb_S4x512x1024_S4x512x1024_0_0_0)) (Finset.subset_univ _)) $$ Ho
  iintro Ho
  iapply (wp_store 𝒱₀ (c : Thread nD τ) none Set.univ (m := M0.o) (r := (Rect.unit ![0, 0, 0] ![4, 512, 1024] inb_S4x512x1024_S4x512x1024_0_0_0)) (Finset.subset_univ _)) $$ Ho
  iintro Ho
  iapply (wp_load_rect 𝒱₀ (c : Thread nD τ) none Set.univ (m := M0.l) (r := (Rect.unit ![0, 0, 0, 0] ![4, 8, 512, 128] inb_S4x8x512x128_S4x8x512x128_0_0_0_0)) (Finset.subset_univ _)) $$ Hl
  iintro Hl
  iapply (wp_store 𝒱₀ (c : Thread nD τ) none Set.univ (m := M0.l) (r := (Rect.unit ![0, 0, 0, 0] ![4, 8, 512, 128] inb_S4x8x512x128_S4x8x512x128_0_0_0_0)) (Finset.subset_univ _)) $$ Hl
  iintro Hl
  have eo : ∀ w : Vec F S4x512x1024 .f32, (M0.o.access (Rect.unit ![0, 0, 0] ![4, 512, 1024] inb_S4x512x1024_S4x512x1024_0_0_0)).write (Elt F) f1 w Finset.univ = w :=
    fun w => Memref.write_access_unit_zero_univ (Elt F) cc0_stg2_0 (by decide) _ f1 w
  have el : ∀ w : Vec F S4x8x512x128 .f32, (M0.l.access (Rect.unit ![0, 0, 0, 0] ![4, 8, 512, 128] inb_S4x8x512x128_S4x8x512x128_0_0_0_0)).write (Elt F) f2 w Finset.univ = w :=
    fun w => Memref.write_access_unit_zero_univ (Elt F) cc0_scratch2 (by decide) _ f2 w
  have el' : shapeCast S4x8x512x128 (broadcast S4x8x512x128 (FloatOps.ofBits FTy.f32 0#32)) shapeCasts_S4x8x512x128_S4x8x512x128 = lAt (lg Kd Vd c (qryOf X W) fun _ => 0) := rfl
  rw [eo, el, el']
  iapply Hc $$ [Ho Hl Hq] Hx Hw
  isplitl [Ho]; · iexact Ho
  isplitl [Hl] <;> iassumption

end State

end Cert.KernelIdeal.Struct

end
-- ==== Proof.Run.lean ====
/- One device's run of the body: the gathered buffer cut into what each neighbour fills, and every step of
   the body taken in order. -/
module

public import proofs.«01_k».proof.Proof.Arith
public import Idealize.ShloMosaic.Lib.Rounds.Family

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ### Cutting the gathered buffer -/

theorem kv_two (c : Dev nD) (q : PosShare TreeShare) (f : Vec F S4x2x2x512x2048 .f32) {S A B : Finset S4x2x2x512x2048.Idx}
    (hu : ∀ i, i ∈ S ↔ i ∈ A ∨ i ∈ B) (hd : ∀ i, i ∈ A → i ∉ B) : (kvP c S q f : sProp 𝕄) ⊣⊢ iprop(kvP c A q f ∗ kvP c B q f) := by
  have h := pointsTo_union (nD := nD) (τ := τ) (sig := sig) (Ix := Unit) (Val := Elt F) (Name := ℕ) (U := UU) (Lvl := ℕ)
    (ℓ := M0.kv.view.loc (c : Thread nD τ)) (q := q) (f := f) (Finset.disjoint_left.mpr fun i => hd i)
  have e : S = A ∪ B := Finset.ext fun i => (hu i).trans Finset.mem_union.symm
  rw [e]; exact h

theorem mem_pset (d : Dev nD) (j : Fin 2) (i : S4x2x2x512x2048.Idx) : i ∈ pset d j ↔ (i 0).val = d.val ∧ (i 4).val / 1024 = j.val := by
  unfold pset; rw [Finset.mem_filter]; exact ⟨fun h => h.2, fun h => ⟨Finset.mem_univ _, h⟩⟩
theorem mem_bset (d : Dev nD) (x y : Fin 2) (i : S4x2x2x512x2048.Idx) : i ∈ bset d x y ↔ (i 0).val = d.val ∧ (i 1).val = x.val ∧ (i 2).val = y.val := by
  unfold bset; rw [Finset.mem_filter]; exact ⟨fun h => h.2, fun h => ⟨Finset.mem_univ _, h⟩⟩
theorem mem_dset (d : Dev nD) (i : S4x2x2x512x2048.Idx) : i ∈ dset d ↔ (i 0).val = d.val := by
  unfold dset; rw [Finset.mem_filter]; exact ⟨fun h => h.2, fun h => ⟨Finset.mem_univ _, h⟩⟩
/-- One device's half of the classes. -/
def rset (d : Dev nD) (x : Fin 2) : Finset S4x2x2x512x2048.Idx := Finset.univ.filter fun i => (i 0).val = d.val ∧ (i 1).val = x.val
theorem mem_rset (d : Dev nD) (x : Fin 2) (i : S4x2x2x512x2048.Idx) : i ∈ rset d x ↔ (i 0).val = d.val ∧ (i 1).val = x.val := by
  unfold rset; rw [Finset.mem_filter]; exact ⟨fun h => h.2, fun h => ⟨Finset.mem_univ _, h⟩⟩

section Cut
variable (c : Dev nD) (q : PosShare TreeShare) (f : Vec F S4x2x2x512x2048 .f32)

theorem dset_parts (d : Dev nD) : (kvP c (dset d) q f : sProp 𝕄) ⊣⊢ iprop(kvP c (pset d 0) q f ∗ kvP c (pset d 1) q f) :=
  kv_two c q f (fun i => by
    have h4 : (i 4).val < 2048 := (i 4).isLt
    rw [mem_dset, mem_pset, mem_pset, Fin.val_zero, Fin.val_one]; omega)
    (fun i h h' => by rw [mem_pset] at h h'; rw [Fin.val_zero] at h; rw [Fin.val_one] at h'; omega)
theorem dset_rows (d : Dev nD) : (kvP c (dset d) q f : sProp 𝕄) ⊣⊢ iprop(kvP c (rset d 0) q f ∗ kvP c (rset d 1) q f) :=
  kv_two c q f (fun i => by
    have h4 : (i 1).val < 2 := (i 1).isLt
    rw [mem_dset, mem_rset, mem_rset, Fin.val_zero, Fin.val_one]; omega)
    (fun i h h' => by rw [mem_rset] at h h'; rw [Fin.val_zero] at h; rw [Fin.val_one] at h'; omega)
theorem rset_blks (d : Dev nD) (x : Fin 2) : (kvP c (rset d x) q f : sProp 𝕄) ⊣⊢ iprop(kvP c (bset d x 0) q f ∗ kvP c (bset d x 1) q f) :=
  kv_two c q f (fun i => by
    have h4 : (i 2).val < 2 := (i 2).isLt
    rw [mem_rset, mem_bset, mem_bset, Fin.val_zero, Fin.val_one]; omega)
    (fun i h h' => by rw [mem_bset] at h h'; rw [Fin.val_zero] at h; rw [Fin.val_one] at h'; omega)
/-- One device's four classes. -/
def blks (d : Dev nD) : sProp 𝕄 := iprop(kvP c (bset d 0 0) q f ∗ kvP c (bset d 0 1) q f ∗ kvP c (bset d 1 0) q f ∗ kvP c (bset d 1 1) q f)
theorem dset_blks (d : Dev nD) : (kvP c (dset d) q f : sProp 𝕄) ⊣⊢ blks c q f d := by
  unfold blks
  constructor
  · iintro H
    ihave H' := (dset_rows c q f d).1 $$ H
    icases H' with ⟨H0, H1⟩
    ihave H0' := (rset_blks c q f d 0).1 $$ H0
    icases H0' with ⟨Ha, Hb⟩
    ihave H1' := (rset_blks c q f d 1).1 $$ H1
    icases H1' with ⟨Hc, Hd⟩
    isplitl [Ha]; · iexact Ha
    isplitl [Hb]; · iexact Hb
    isplitl [Hc] <;> iassumption
  · iintro ⟨Ha, Hb, Hc, Hd⟩
    iapply (dset_rows c q f d).2
    isplitl [Ha Hb]
    · iapply (rset_blks c q f d 0).2; isplitl [Ha] <;> iassumption
    · iapply (rset_blks c q f d 1).2; isplitl [Hc] <;> iassumption
theorem parts_blks (d : Dev nD) : iprop(kvP c (pset d 0) q f ∗ kvP c (pset d 1) q f) ⊢ blks c q f d :=
  (dset_parts c q f d).2.trans (dset_blks c q f d).1

/-- All but one device's; a pair of devices'. -/
def oset (c : Dev nD) : Finset S4x2x2x512x2048.Idx := Finset.univ.filter fun i => (i 0).val ≠ c.val
theorem mem_oset (i : S4x2x2x512x2048.Idx) : i ∈ oset c ↔ (i 0).val ≠ c.val := by
  unfold oset; rw [Finset.mem_filter]; exact ⟨fun h => h.2, fun h => ⟨Finset.mem_univ _, h⟩⟩
def nset (c : Dev nD) : Finset S4x2x2x512x2048.Idx := Finset.univ.filter fun i => (i 0).val = (rgt c).val ∨ (i 0).val = (opp c).val
theorem mem_nset (i : S4x2x2x512x2048.Idx) : i ∈ nset c ↔ (i 0).val = (rgt c).val ∨ (i 0).val = (opp c).val := by
  unfold nset; rw [Finset.mem_filter]; exact ⟨fun h => h.2, fun h => ⟨Finset.mem_univ _, h⟩⟩
theorem others (c d : Dev nD) : d.val ≠ c.val ↔ d.val = (lft c).val ∨ d.val = (rgt c).val ∨ d.val = (opp c).val := by revert c d; decide
theorem lft_off (c d : Dev nD) (h : d.val = (lft c).val) : ¬(d.val = (rgt c).val ∨ d.val = (opp c).val) := by revert c d; decide
theorem rgt_off (c d : Dev nD) (h : d.val = (rgt c).val) : ¬d.val = (opp c).val := by revert c d; decide

theorem kv_devs : (kvP c Finset.univ q f : sProp 𝕄) ⊣⊢ iprop(kvP c (dset c) q f ∗ kvP c (dset (lft c)) q f ∗ kvP c (dset (rgt c)) q f ∗ kvP c (dset (opp c)) q f) := by
  have h1 : (kvP c Finset.univ q f : sProp 𝕄) ⊣⊢ iprop(kvP c (dset c) q f ∗ kvP c (oset c) q f) :=
    kv_two c q f (fun i => by rw [mem_dset, mem_oset]; exact ⟨fun _ => Decidable.em _, fun _ => Finset.mem_univ _⟩) (fun i h h' => by rw [mem_dset] at h; rw [mem_oset] at h'; exact h' h)
  have h2 : (kvP c (oset c) q f : sProp 𝕄) ⊣⊢ iprop(kvP c (dset (lft c)) q f ∗ kvP c (nset c) q f) :=
    kv_two c q f (fun i => by rw [mem_dset, mem_oset, mem_nset]; exact others c (i 0)) (fun i h h' => by rw [mem_dset] at h; rw [mem_nset] at h'; exact lft_off c (i 0) h h')
  have h3 : (kvP c (nset c) q f : sProp 𝕄) ⊣⊢ iprop(kvP c (dset (rgt c)) q f ∗ kvP c (dset (opp c)) q f) :=
    kv_two c q f (fun i => by rw [mem_dset, mem_dset, mem_nset]) (fun i h h' => by rw [mem_dset] at h h'; exact rgt_off c (i 0) h h')
  constructor
  · iintro H
    ihave H' := h1.1 $$ H
    icases H' with ⟨Ha, H⟩
    ihave H' := h2.1 $$ H
    icases H' with ⟨Hb, H⟩
    ihave H' := h3.1 $$ H
    icases H' with ⟨Hc, Hd⟩
    isplitl [Ha]; · iexact Ha
    isplitl [Hb]; · iexact Hb
    isplitl [Hc] <;> iassumption
  · iintro ⟨Ha, Hb, Hc, Hd⟩
    iapply h1.2
    isplitl [Ha]; · iexact Ha
    iapply h2.2
    isplitl [Hb]; · iexact Hb
    iapply h3.2
    isplitl [Hc] <;> iassumption
end Cut

section Steps
variable (Kd Vd : Dev nD → Vec F S2x2x512x1024 .f32) (κ : GSem nD τ sig → ℕ) (c : Dev nD)

/-- The gathered buffer at the end: the device's own part as it was. -/
def kvEnd (f : Vec F S4x2x2x512x2048 .f32) : Vec F S4x2x2x512x2048 .f32 := fun i => if (i 0).val = c.val then f i else kvG Kd Vd i
theorem kvEnd_own (f : Vec F S4x2x2x512x2048 .f32) : (kvP c (dset c) fullShare f : sProp 𝕄) = kvP c (dset c) fullShare (kvEnd Kd Vd c f) :=
  pointsTo_congr fun i hi => (if_pos ((mem_dset c i).mp hi)).symm
theorem kvEnd_off (f : Vec F S4x2x2x512x2048 .f32) (d : Dev nD) (h : d.val ≠ c.val) :
    (kvP c (dset d) fullShare (kvG Kd Vd) : sProp 𝕄) = kvP c (dset d) fullShare (kvEnd Kd Vd c f) :=
  pointsTo_congr fun i hi => (if_neg (fun e => h (((mem_dset d i).mp hi).symm.trans e))).symm
theorem lft_ne (c : Dev nD) : (lft c).val ≠ c.val := by revert c; decide
theorem rgt_ne (c : Dev nD) : (rgt c).val ≠ c.val := by revert c; decide
theorem opp_ne (c : Dev nD) : (opp c).val ≠ c.val := by revert c; decide

/-- Everything put together again. -/
theorem kv_join (f : Vec F S4x2x2x512x2048 .f32) :
    iprop(kvP c (dset c) fullShare f ∗ blks c fullShare (kvG Kd Vd) (lft c) ∗ blks c fullShare (kvG Kd Vd) (rgt c) ∗ blks c fullShare (kvG Kd Vd) (opp c))
      ⊢ (kvP c Finset.univ fullShare (kvEnd Kd Vd c f) : sProp 𝕄) := by
  iintro ⟨Ha, Hb, Hc, Hd⟩
  iapply (kv_devs c fullShare (kvEnd Kd Vd c f)).2
  isplitl [Ha]; · iapply (Entails.of_eq (kvEnd_own Kd Vd c f)); iexact Ha
  isplitl [Hb]; · iapply (Entails.of_eq (kvEnd_off Kd Vd c f (lft c) (lft_ne c))); iapply (dset_blks c fullShare (kvG Kd Vd) (lft c)).2; iexact Hb
  isplitl [Hc]; · iapply (Entails.of_eq (kvEnd_off Kd Vd c f (rgt c) (rgt_ne c))); iapply (dset_blks c fullShare (kvG Kd Vd) (rgt c)).2; iexact Hc
  iapply (Entails.of_eq (kvEnd_off Kd Vd c f (opp c) (opp_ne c))); iapply (dset_blks c fullShare (kvG Kd Vd) (opp c)).2; iexact Hd

theorem kv_halves (d : Dev nD) (x y : Fin 2) (f : Vec F S4x2x2x512x2048 .f32) :
    (kvP c (bset d x y) fullShare f : sProp 𝕄) ⊣⊢ iprop(kvP c (bset d x y) fullShare.left f ∗ kvP c (bset d x y) fullShare.right f) :=
  pointsTo_share (PosShare.mem_left_op_right fullShare)

/-- A device's own keys in four shares. -/
theorem kk_shares : (kkP Kd c fullShare : sProp 𝕄) ⊣⊢ iprop(kkP Kd c shL ∗ kkP Kd c shR ∗ kkP Kd c (shO 0) ∗ kkP Kd c (shO 1)) := by
  have h1 : (kkP Kd c fullShare : sProp 𝕄) ⊣⊢ iprop(kkP Kd c shL ∗ kkP Kd c fullShare.right) := pointsTo_share (PosShare.mem_left_op_right _)
  have h2 : (kkP Kd c fullShare.right : sProp 𝕄) ⊣⊢ iprop(kkP Kd c shR ∗ kkP Kd c fullShare.right.right) := pointsTo_share (PosShare.mem_left_op_right _)
  have h3 : (kkP Kd c fullShare.right.right : sProp 𝕄) ⊣⊢ iprop(kkP Kd c (shO 0) ∗ kkP Kd c (shO 1)) := pointsTo_share (PosShare.mem_left_op_right _)
  constructor
  · iintro H
    ihave H' := h1.1 $$ H
    icases H' with ⟨Ha, H⟩
    ihave H' := h2.1 $$ H
    icases H' with ⟨Hb, H⟩
    ihave H' := h3.1 $$ H
    icases H' with ⟨Hc, Hd⟩
    isplitl [Ha]; · iexact Ha
    isplitl [Hb]; · iexact Hb
    isplitl [Hc] <;> iassumption
  · iintro ⟨Ha, Hb, Hc, Hd⟩
    iapply h1.2
    isplitl [Ha]; · iexact Ha
    iapply h2.2
    isplitl [Hb]; · iexact Hb
    iapply h3.2
    isplitl [Hc] <;> iassumption
theorem vv_shares : (vvP Vd c fullShare : sProp 𝕄) ⊣⊢ iprop(vvP Vd c shL ∗ vvP Vd c shR ∗ vvP Vd c (shO 0) ∗ vvP Vd c (shO 1)) := by
  have h1 : (vvP Vd c fullShare : sProp 𝕄) ⊣⊢ iprop(vvP Vd c shL ∗ vvP Vd c fullShare.right) := pointsTo_share (PosShare.mem_left_op_right _)
  have h2 : (vvP Vd c fullShare.right : sProp 𝕄) ⊣⊢ iprop(vvP Vd c shR ∗ vvP Vd c fullShare.right.right) := pointsTo_share (PosShare.mem_left_op_right _)
  have h3 : (vvP Vd c fullShare.right.right : sProp 𝕄) ⊣⊢ iprop(vvP Vd c (shO 0) ∗ vvP Vd c (shO 1)) := pointsTo_share (PosShare.mem_left_op_right _)
  constructor
  · iintro H
    ihave H' := h1.1 $$ H
    icases H' with ⟨Ha, H⟩
    ihave H' := h2.1 $$ H
    icases H' with ⟨Hb, H⟩
    ihave H' := h3.1 $$ H
    icases H' with ⟨Hc, Hd⟩
    isplitl [Ha]; · iexact Ha
    isplitl [Hb]; · iexact Hb
    isplitl [Hc] <;> iassumption
  · iintro ⟨Ha, Hb, Hc, Hd⟩
    iapply h1.2
    isplitl [Ha]; · iexact Ha
    iapply h2.2
    isplitl [Hb]; · iexact Hb
    iapply h3.2
    isplitl [Hc] <;> iassumption

/-! ### The copies between devices, each with its own cells -/

theorem arr0 : dmaPay Kd Vd (lft c) (sem4 M0.r1 0).val = kvP (lft c) (pset c 0) fullShare (kvG Kd Vd) :=
  (show _ = kvP (lft c) (pset (rgt (lft c)) 0) fullShare (kvG Kd Vd) from rfl).trans (by rw [rgt_lft])
theorem arr1 : dmaPay Kd Vd (lft c) (sem4 M0.r1 1).val = kvP (lft c) (pset c 1) fullShare (kvG Kd Vd) :=
  (show _ = kvP (lft c) (pset (rgt (lft c)) 1) fullShare (kvG Kd Vd) from rfl).trans (by rw [rgt_lft])
theorem arr2 : dmaPay Kd Vd (rgt c) (sem4 M0.r1 2).val = kvP (rgt c) (pset c 0) fullShare (kvG Kd Vd) :=
  (show _ = kvP (rgt c) (pset (lft (rgt c)) 0) fullShare (kvG Kd Vd) from rfl).trans (by rw [lft_rgt])
theorem arr3 : dmaPay Kd Vd (rgt c) (sem4 M0.r1 3).val = kvP (rgt c) (pset c 1) fullShare (kvG Kd Vd) :=
  (show _ = kvP (rgt c) (pset (lft (rgt c)) 1) fullShare (kvG Kd Vd) from rfl).trans (by rw [lft_rgt])

/-- The keys sent to a neighbour `t`. -/
theorem wp_putK (n t : Dev nD) (hn : n = t) (i : Fin 4) {off : Fin 5 → Nat} (hin) (e : off = ![c.val, 0, 0, 0, 0]) (q : PosShare TreeShare)
    (hsrc : dmaPay Kd Vd c (sem4 M0.s1 i).val = kkP Kd c q) (hdst : dmaPay Kd Vd t (sem4 M0.r1 i).val = kvP t (pset c 0) fullShare (kvG Kd Vd))
    (m : Nat) (hm : payCell c m = r1C t i) (k : PUnit → P F) (Q : PUnit → sProp 𝕄) :
    recs Kd Vd κ ⊢ iprop(kkP Kd c q -∗ (∃ f, kvP t (pset c 0) fullShare f) -∗ Ow c (m + 1)
      -∗ tok1 c t i -∗ reached ER (s1C c i) 0 -∗ reached ER (r1C t i) 0
      -∗ (cred (tallyAt (s1C c i) () N1) -∗ Ow c m -∗ WP c (k ⟨⟩) Q)
      -∗ WP c (put M0 M0.kk M0.hkk n i off hin >>= k) Q) :=
  wp_put Kd Vd κ c n t hn i 0 hin e M0.kk M0.hkk q (Kd c) ((read_part0 Kd Vd hin c e).trans (show Kd c = M0.kk.view.read (Elt F) (Kd c) from (View.read_whole main_v10 (Kd c)).symm)) hsrc hdst m hm k Q
/-- The values. -/
theorem wp_putV (n t : Dev nD) (hn : n = t) (i : Fin 4) {off : Fin 5 → Nat} (hin) (e : off = ![c.val, 0, 0, 0, 1024]) (q : PosShare TreeShare)
    (hsrc : dmaPay Kd Vd c (sem4 M0.s1 i).val = vvP Vd c q) (hdst : dmaPay Kd Vd t (sem4 M0.r1 i).val = kvP t (pset c 1) fullShare (kvG Kd Vd))
    (m : Nat) (hm : payCell c m = r1C t i) (k : PUnit → P F) (Q : PUnit → sProp 𝕄) :
    recs Kd Vd κ ⊢ iprop(vvP Vd c q -∗ (∃ f, kvP t (pset c 1) fullShare f) -∗ Ow c (m + 1)
      -∗ tok1 c t i -∗ reached ER (s1C c i) 0 -∗ reached ER (r1C t i) 0
      -∗ (cred (tallyAt (s1C c i) () N1) -∗ Ow c m -∗ WP c (k ⟨⟩) Q)
      -∗ WP c (put M0 M0.vv M0.hvv n i off hin >>= k) Q) :=
  wp_put Kd Vd κ c n t hn i 1 hin e M0.vv M0.hvv q (Vd c) ((read_part1 Kd Vd hin c e).trans (show Vd c = M0.vv.view.read (Elt F) (Vd c) from (View.read_whole main_v16 (Vd c)).symm)) hsrc hdst m hm k Q

/-- A wait, its cell under another name. -/
theorem wp_take' (ai : Fin 4 × Fin 4) (sm : DmaSem sig) (hsm : sm = sem4 (arr4 ai.1) ai.2) (n : Nat) (hlev : ∀ k, k < n → lvs (osemT ai) < lvs (paySem k)) {sp sp' : Space} {s s' : Shape} {e e' : EltTy}
    {src : Memref sig .tc sp' s' e'} {dst : Memref sig .tc sp s e} {h h'} (N : ℕ) (hN : dst.view.dmaCredit = N) (ha : amountOf (.dma sm) = N)
    (X : sProp 𝕄) (hX : dmaPay Kd Vd c sm.val = X) (k : PUnit → P F) (Q : PUnit → sProp 𝕄) :
    recs Kd Vd κ ⊢ iprop(levAts L lv -∗ cred (tallyAt ((c : Thread nD τ), .dma sm) () N) -∗ Ow c n -∗ atPos ER ((c : Thread nD τ), .dma sm) 0 ∅ 0
      -∗ (X -∗ Ow c n -∗ atPos ER ((c : Thread nD τ), .dma sm) 1 ∅ 0 -∗ WP c (k ⟨⟩) Q)
      -∗ WP c (Prog.lift (.waitDma2 sm src dst h h') >>= k) Q) := by
  subst hsm
  exact wp_take Kd Vd κ c ai n hlev N hN ha X hX k Q

theorem credK : M0.kk.view.dmaCredit = N1 := rfl
theorem credV : M0.vv.view.dmaCredit = N1 := rfl
theorem credP {off : Fin 5 → Nat} (hin) : (part M0.kv off hin).view.dmaCredit = N1 := rfl
theorem credB {off : Fin 5 → Nat} (hin) : (blk M0.kv off hin).view.dmaCredit = N2 := rfl

theorem wp_came (i : Fin 4) (src : Memref sig .tc .hbm S2x2x512x1024 .f32) (hs : src.IsWhole) {off : Fin 5 → Nat} (hin) (n : Nat)
    (hlev : ∀ k, k < n → lvs (osemT (1, i)) < lvs (paySem k)) (X : sProp 𝕄) (hX : dmaPay Kd Vd c (sem4 M0.r1 i).val = X) (k : PUnit → P F) (Q : PUnit → sProp 𝕄) :
    recs Kd Vd κ ⊢ iprop(levAts L lv -∗ cred (tallyAt (r1C c i) () N1) -∗ Ow c n -∗ atPos ER (r1C c i) 0 ∅ 0
      -∗ (X -∗ Ow c n -∗ atPos ER (r1C c i) 1 ∅ 0 -∗ WP c (k ⟨⟩) Q)
      -∗ WP c (came M0 src hs i off hin >>= k) Q) := by
  unfold came
  exact wp_take' Kd Vd κ c (1, i) (sem4 M0.r1 i) rfl n hlev N1 (credP hin) (amt_r1 i) X hX k Q
theorem wp_leftK (i : Fin 4) {off : Fin 5 → Nat} (hin) (X : sProp 𝕄) (hX : dmaPay Kd Vd c (sem4 M0.s1 i).val = X) (k : PUnit → P F) (Q : PUnit → sProp 𝕄) :
    recs Kd Vd κ ⊢ iprop(levAts L lv -∗ cred (tallyAt (s1C c i) () N1) -∗ Ow c 0 -∗ atPos ER (s1C c i) 0 ∅ 0
      -∗ (X -∗ Ow c 0 -∗ atPos ER (s1C c i) 1 ∅ 0 -∗ WP c (k ⟨⟩) Q)
      -∗ WP c (left M0 M0.kk M0.hkk i off hin >>= k) Q) := by
  unfold left
  exact wp_take' Kd Vd κ c (0, i) (sem4 M0.s1 i) rfl 0 (fun k h => absurd h (Nat.not_lt_zero k)) N1 (credK) (amt_s1 i) X hX k Q
theorem wp_leftV (i : Fin 4) {off : Fin 5 → Nat} (hin) (X : sProp 𝕄) (hX : dmaPay Kd Vd c (sem4 M0.s1 i).val = X) (k : PUnit → P F) (Q : PUnit → sProp 𝕄) :
    recs Kd Vd κ ⊢ iprop(levAts L lv -∗ cred (tallyAt (s1C c i) () N1) -∗ Ow c 0 -∗ atPos ER (s1C c i) 0 ∅ 0
      -∗ (X -∗ Ow c 0 -∗ atPos ER (s1C c i) 1 ∅ 0 -∗ WP c (k ⟨⟩) Q)
      -∗ WP c (left M0 M0.vv M0.hvv i off hin >>= k) Q) := by
  unfold left
  exact wp_take' Kd Vd κ c (0, i) (sem4 M0.s1 i) rfl 0 (fun k h => absurd h (Nat.not_lt_zero k)) N1 (credV) (amt_s1 i) X hX k Q
theorem wp_came2 (i : Fin 4) {off : Fin 5 → Nat} (hin) (X : sProp 𝕄) (hX : dmaPay Kd Vd c (sem4 M0.r2 i).val = X) (k : PUnit → P F) (Q : PUnit → sProp 𝕄) :
    recs Kd Vd κ ⊢ iprop(levAts L lv -∗ cred (tallyAt (r2C c i) () N2) -∗ Ow c 0 -∗ atPos ER (r2C c i) 0 ∅ 0
      -∗ (X -∗ Ow c 0 -∗ atPos ER (r2C c i) 1 ∅ 0 -∗ WP c (k ⟨⟩) Q)
      -∗ WP c (wait2 M0 (sem4 M0.r2 i) off hin >>= k) Q) := by
  unfold wait2
  exact wp_take' Kd Vd κ c (3, i) (sem4 M0.r2 i) rfl 0 (fun k h => absurd h (Nat.not_lt_zero k)) N2 (credB hin) (amt_r2 i) X hX k Q
theorem wp_left2 (i : Fin 4) {off : Fin 5 → Nat} (hin) (X : sProp 𝕄) (hX : dmaPay Kd Vd c (sem4 M0.s2 i).val = X) (k : PUnit → P F) (Q : PUnit → sProp 𝕄) :
    recs Kd Vd κ ⊢ iprop(levAts L lv -∗ cred (tallyAt (s2C c i) () N2) -∗ Ow c 0 -∗ atPos ER (s2C c i) 0 ∅ 0
      -∗ (X -∗ Ow c 0 -∗ atPos ER (s2C c i) 1 ∅ 0 -∗ WP c (k ⟨⟩) Q)
      -∗ WP c (wait2 M0 (sem4 M0.s2 i) off hin >>= k) Q) := by
  unfold wait2
  exact wp_take' Kd Vd κ c (2, i) (sem4 M0.s2 i) rfl 0 (fun k h => absurd h (Nat.not_lt_zero k)) N2 (credB hin) (amt_s2 i) X hX k Q

/-- Nothing follows. -/
theorem wp_last (p : P F) (Q : PUnit → sProp 𝕄) : WP c (p >>= fun _ => pure ⟨⟩) Q ⊢ WP c p Q := by
  have e : (p >>= fun _ => pure ⟨⟩ : P F) = p := Prog.bind_pure p
  rw [e]

end Steps

end Cert.KernelIdeal.Struct

end
-- ==== Proof.Drive.lean ====
/- The whole body on one device, step by step. -/
module

public import proofs.«01_k».proof.Proof.Run

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

theorem offL00 (c : Dev nD) : k0_off5 c = ![(lft c).val, (0 : Fin 2).val, (0 : Fin 2).val, 0, 0] := k0_off5_eq c
theorem offL01 (c : Dev nD) : k0_off6 c = ![(lft c).val, (0 : Fin 2).val, (1 : Fin 2).val, 0, 0] := k0_off6_eq c
theorem offL10 (c : Dev nD) : k0_off7 c = ![(lft c).val, (1 : Fin 2).val, (0 : Fin 2).val, 0, 0] := k0_off7_eq c
theorem offL11 (c : Dev nD) : k0_off8 c = ![(lft c).val, (1 : Fin 2).val, (1 : Fin 2).val, 0, 0] := k0_off8_eq c
theorem offR00 (c : Dev nD) : k0_off13 c 1#32 = ![(rgt c).val, (0 : Fin 2).val, (0 : Fin 2).val, 0, 0] := k0_off13_eq c 0
theorem offR01 (c : Dev nD) : k0_off14 c 1#32 = ![(rgt c).val, (0 : Fin 2).val, (1 : Fin 2).val, 0, 0] := k0_off14_eq c 0
theorem offR10 (c : Dev nD) : k0_off11 c 1#32 = ![(rgt c).val, (1 : Fin 2).val, (0 : Fin 2).val, 0, 0] := k0_off11_eq c 0
theorem offR11 (c : Dev nD) : k0_off12 c 1#32 = ![(rgt c).val, (1 : Fin 2).val, (1 : Fin 2).val, 0, 0] := k0_off12_eq c 0
theorem offO00 (c : Dev nD) : k0_off13 c 2#32 = ![(opp c).val, (0 : Fin 2).val, (0 : Fin 2).val, 0, 0] := k0_off13_eq c 1
theorem offO01 (c : Dev nD) : k0_off14 c 2#32 = ![(opp c).val, (0 : Fin 2).val, (1 : Fin 2).val, 0, 0] := k0_off14_eq c 1
theorem offO10 (c : Dev nD) : k0_off11 c 2#32 = ![(opp c).val, (1 : Fin 2).val, (0 : Fin 2).val, 0, 0] := k0_off11_eq c 1
theorem offO11 (c : Dev nD) : k0_off12 c 2#32 = ![(opp c).val, (1 : Fin 2).val, (1 : Fin 2).val, 0, 0] := k0_off12_eq c 1

section Drive
variable (Kd Vd : Dev nD → Vec F S2x2x512x1024 .f32) (κ : GSem nD τ sig → ℕ) (c : Dev nD)

theorem far0 : dmaPay Kd Vd (rgt c) (sem4 M0.r2 0).val = kvP (rgt c) (bset (lft c) 0 0) fullShare (kvG Kd Vd) :=
  (show _ = kvP (rgt c) (bset (opp (rgt c)) 0 0) fullShare (kvG Kd Vd) from rfl).trans (by rw [opp_rgt])
theorem far1 : dmaPay Kd Vd (rgt c) (sem4 M0.r2 1).val = kvP (rgt c) (bset (lft c) 0 1) fullShare (kvG Kd Vd) :=
  (show _ = kvP (rgt c) (bset (opp (rgt c)) 0 1) fullShare (kvG Kd Vd) from rfl).trans (by rw [opp_rgt])
theorem far2 : dmaPay Kd Vd (lft c) (sem4 M0.r2 2).val = kvP (lft c) (bset (rgt c) 1 0) fullShare (kvG Kd Vd) :=
  (show _ = kvP (lft c) (bset (opp (lft c)) 1 0) fullShare (kvG Kd Vd) from rfl).trans (by rw [opp_lft])
theorem far3 : dmaPay Kd Vd (lft c) (sem4 M0.r2 3).val = kvP (lft c) (bset (rgt c) 1 1) fullShare (kvG Kd Vd) :=
  (show _ = kvP (lft c) (bset (opp (lft c)) 1 1) fullShare (kvG Kd Vd) from rfl).trans (by rw [opp_lft])

/-- Four of a family. -/
def four (Φ : Fin 4 → sProp 𝕄) : sProp 𝕄 := iprop(Φ 0 ∗ Φ 1 ∗ Φ 2 ∗ Φ 3)
/-- The places of a device's sixteen cells, at round `r`. -/
def places (r : ℕ) (a : Fin 4) : sProp 𝕄 := four fun i => atPos ER ((c : Thread nD τ), osemT (a, i)) r ∅ 0
/-- What is known of the rounds reached: the two neighbours' barriers and the device's own cells. -/
def known : sProp 𝕄 := iprop(reached ER (barC (lft c)) 0 ∗ reached ER (barC (rgt c)) 0 ∗ (four fun i => reached ER ((c : Thread nD τ), osemT (0, i)) 0)
  ∗ (four fun i => reached ER ((c : Thread nD τ), osemT (1, i)) 0) ∗ (four fun i => reached ER ((c : Thread nD τ), osemT (2, i)) 0) ∗ (four fun i => reached ER ((c : Thread nD τ), osemT (3, i)) 0))
instance known_persistent : BI.Persistent (known (F := F) c) := by unfold known four; infer_instance
/-- The tokens of the payments the device makes. -/
def toks : sProp 𝕄 := iprop(dutyTok ER (barC (lft c)) 0 0 ∗ dutyTok ER (barC (rgt c)) 0 1
  ∗ (tok1 c (lft c) 0 ∗ tok1 c (lft c) 1 ∗ tok1 c (rgt c) 2 ∗ tok1 c (rgt c) 3)
  ∗ (tok2 c (rgt c) 0 ∗ tok2 c (rgt c) 1 ∗ tok2 c (lft c) 2 ∗ tok2 c (lft c) 3))
/-- The credit it draws on. -/
def creds : sProp 𝕄 := iprop(cred (tallyAt (barC c) () 2) ∗ (four fun i => cred (tallyAt (r1C c i) () N1)) ∗ (four fun i => cred (tallyAt (r2C c i) () N2)))
/-- The local copies' counters at rest. -/
def dms : sProp 𝕄 := iprop(dmV c 0 0 ∗ dmV c 0 1 ∗ dmV c 1 0 ∗ dmV c 1 1)

/-- What the body gives back of the protocol. -/
def spent : sProp 𝕄 := iprop(atPos ER (barC c) 1 ∅ 0 ∗ places c 1 0 ∗ places c 1 1 ∗ places c 1 2 ∗ places c 1 3 ∗ dms c ∗ Ow c 0)
/-- And of the arrays. -/
def arrEnd (X : Vec F S4x512x1024 .f32) (W : Vec F S1024x1024 .f32) (f0 : Vec F S4x2x2x512x2048 .f32) : sProp 𝕄 :=
  iprop(kvP c Finset.univ fullShare (kvEnd Kd Vd c f0) ∗ kkP Kd c fullShare ∗ vvP Vd c fullShare ∗ xP c X ∗ wP c W
    ∗ oP c (oFin Kd Vd c (qryOf X W)) ∗ (∃ f, lP c f) ∗ (∃ f, qP c f) ∗ (∃ f, slotP c 0 f) ∗ (∃ f, slotP c 1 f))

theorem wp_end (Q : PUnit → sProp 𝕄) : iprop(|={Set.univ}=> Q ⟨⟩) ⊢ WP c (.ret ⟨⟩ : P F) Q := Entails.of_eq rfl

set_option maxHeartbeats 4000000 in
set_option maxRecDepth 4000 in
theorem wp_rest (X : Vec F S4x512x1024 .f32) (W : Vec F S1024x1024 .f32) (f0 : Vec F S4x2x2x512x2048 .f32) (fa fb : Vec F S2x512x2048 .f32)
    (fo fq : Vec F S4x512x1024 .f32) (fl : Vec F S4x8x512x128 .f32) (Q : PUnit → sProp 𝕄) :
    recs Kd Vd κ ⊢ iprop(levAts L lv -∗ known c -∗ kvP c Finset.univ fullShare f0 -∗ kkP Kd c fullShare -∗ vvP Vd c fullShare -∗ xP c X -∗ wP c W
      -∗ oP c fo -∗ lP c fl -∗ qP c fq -∗ slotP c 0 fa -∗ slotP c 1 fb -∗ dms c -∗ toks c -∗ creds c
      -∗ atPos ER (barC c) 0 ∅ 0 -∗ places c 0 0 -∗ places c 0 1 -∗ places c 0 2 -∗ places c 0 3 -∗ Ow c 10
      -∗ (spent c -∗ arrEnd Kd Vd c X W f0 -∗ |={Set.univ}=> Q ⟨⟩)
      -∗ WP c (rest M0 c) Q) := by
  unfold rest known toks creds dms places four
  dsimp only [osemT, arr4]
  iintro #HR #Hlev #Hkn Hkv Hkk Hvv Hx Hw Ho Hl Hq Hs0 Hs1 ⟨Hd00, Hd01, Hd10, Hd11⟩ ⟨HtB0, HtB1, ⟨Ht10, Ht11, Ht12, Ht13⟩, ⟨Ht20, Ht21, Ht22, Ht23⟩⟩ ⟨HcB, ⟨Hc10, Hc11, Hc12, Hc13⟩, ⟨Hc20, Hc21, Hc22, Hc23⟩⟩ HaB ⟨Has10, Has11, Has12, Has13⟩ ⟨Har10, Har11, Har12, Har13⟩ ⟨Has20, Has21, Has22, Has23⟩ ⟨Har20, Har21, Har22, Har23⟩ HO Hend
  icases Hkn with ⟨#Hb0, #Hb1, ⟨#Hs10, #Hs11, #Hs12, #Hs13⟩, ⟨#Hr10, #Hr11, #Hr12, #Hr13⟩, ⟨#Hs20, #Hs21, #Hs22, #Hs23⟩, ⟨#Hr20, #Hr21, #Hr22, #Hr23⟩⟩
  ihave H' := (kv_devs c fullShare f0).1 $$ Hkv
  icases H' with ⟨Hown, Hlf, Hrf, Hof⟩
  ihave H' := (dset_parts c fullShare f0 (lft c)).1 $$ Hlf
  icases H' with ⟨HL0, HL1⟩
  ihave H' := (dset_parts c fullShare f0 (rgt c)).1 $$ Hrf
  icases H' with ⟨HR0, HR1⟩
  ihave H' := (dset_blks c fullShare f0 (opp c)).1 $$ Hof
  unfold blks
  icases H' with ⟨HO00, HO01, HO10, HO11⟩
  ihave H' := (kk_shares Kd c).1 $$ Hkk
  icases H' with ⟨HkL, HkR, Hk0, Hk1⟩
  ihave H' := (vv_shares Vd c).1 $$ Hvv
  icases H' with ⟨HvL, HvR, Hv0, Hv1⟩
  -- the handshake
  iapply (wp_handshake Kd Vd κ c _ _ (Fin.ext (k0_dev1_eq c)) (Fin.ext (k0_dev2_eq c)) _ _) $$ HR Hlev [HL0 HL1 HO00 HO01] [HR0 HR1 HO10 HO11] HtB0 HtB1 Hb0 Hb1 HcB HO HaB
  · unfold place
    isplitl [HL0]; · iexists f0; iexact HL0
    isplitl [HL1]; · iexists f0; iexact HL1
    isplitl [HO00]; · iexists f0; iexact HO00
    isplitl [HO01]; · iexists f0; iexact HO01
    isplitr; · iexact Hr12
    isplitr; · iexact Hr13
    isplitr; · iexact Hr20
    iexact Hr21
  · unfold place
    isplitl [HR0]; · iexists f0; iexact HR0
    isplitl [HR1]; · iexists f0; iexact HR1
    isplitl [HO10]; · iexists f0; iexact HO10
    isplitl [HO11]; · iexists f0; iexact HO11
    isplitr; · iexact Hr10
    isplitr; · iexact Hr11
    isplitr; · iexact Hr22
    iexact Hr23
  unfold place
  rw [opp_rgt, opp_lft]
  iintro ⟨HdR0, HdR1, HdR00, HdR01, #HnR2, #HnR3, #HmR0, #HmR1⟩ ⟨HdL0, HdL1, HdL10, HdL11, #HnL0, #HnL1, #HmL2, #HmL3⟩ HO HaB
  -- the device's own arrays, to both neighbours
  iapply (wp_putK Kd Vd κ c _ (lft c) (Fin.ext (k0_dev3_eq c)) 0 _ (k0_off1_eq c) shL rfl (arr0 Kd Vd c) 7 rfl _ _) $$ HR HkL HdL0 HO Ht10 Hs10 HnL0
  iintro Hcs10 HO
  iapply (wp_putV Kd Vd κ c _ (lft c) (Fin.ext (k0_dev4_eq c)) 1 _ (k0_off2_eq c) shL rfl (arr1 Kd Vd c) 6 rfl _ _) $$ HR HvL HdL1 HO Ht11 Hs11 HnL1
  iintro Hcs11 HO
  iapply (wp_putK Kd Vd κ c _ (rgt c) (Fin.ext (k0_dev5_eq c)) 2 _ (k0_off1_eq c) shR rfl (arr2 Kd Vd c) 5 rfl _ _) $$ HR HkR HdR0 HO Ht12 Hs12 HnR2
  iintro Hcs12 HO
  iapply (wp_putV Kd Vd κ c _ (rgt c) (Fin.ext (k0_dev6_eq c)) 3 _ (k0_off2_eq c) shR rfl (arr3 Kd Vd c) 4 rfl _ _) $$ HR HvR HdR1 HO Ht13 Hs13 HnR3
  iintro Hcs13 HO
  -- the queries
  iapply (wp_start Kd Vd c X W fo fq fl _ _) $$ Ho Hl Hq Hx Hw
  iintro HSt Hx Hw
  -- the device's own classes
  iapply (wp_getOwn Kd Vd c 0 0 0 _ _ _) $$ Hs0 Hk0 Hv0 Hd00 Hd01
  iintro HF0
  iapply (wp_getOwn Kd Vd c 1 0 1 _ _ _) $$ Hs1 Hk1 Hv1 Hd10 Hd11
  iintro HF1
  iapply (wp_gotOwn Kd Vd c 0 0 0 4 _ _) $$ Hlev HF0 HO
  iintro Hs0 Hk0 Hv0 Hd00 Hd01 HO
  iapply (wp_round Kd Vd c (qryOf X W) 0 0 c 0 0 (fun _ => 0) ![1, 0, 0, 0] rfl rfl rfl (by decide) (by decide) _ _) $$ HSt Hs0
  iintro HSt Hs0
  iapply (wp_getOwn Kd Vd c 0 1 0 _ _ _) $$ Hs0 Hk0 Hv0 Hd00 Hd01
  iintro HF0
  iapply (wp_gotOwn Kd Vd c 1 0 1 4 _ _) $$ Hlev HF1 HO
  iintro Hs1 Hk1 Hv1 Hd10 Hd11 HO
  iapply (wp_round Kd Vd c (qryOf X W) 1 1 c 0 1 ![1, 0, 0, 0] ![1, 1, 0, 0] rfl rfl rfl (by decide) (by decide) _ _) $$ HSt Hs1
  iintro HSt Hs1
  iapply (wp_getOwn Kd Vd c 1 1 1 _ _ _) $$ Hs1 Hk1 Hv1 Hd10 Hd11
  iintro HF1
  iapply (wp_gotOwn Kd Vd c 0 1 0 4 _ _) $$ Hlev HF0 HO
  iintro Hs0 Hk0 Hv0 Hd00 Hd01 HO
  iapply (wp_round Kd Vd c (qryOf X W) 0 2 c 1 0 ![1, 1, 0, 0] ![1, 1, 1, 0] rfl rfl rfl (by decide) (by decide) _ _) $$ HSt Hs0
  iintro HSt Hs0
  -- the left neighbour's
  iapply (wp_came Kd Vd κ c 2 M0.kk M0.hkk _ 4 (by decide) (kvP c (pset (lft c) 0) fullShare (kvG Kd Vd)) rfl _ _) $$ HR Hlev Hc12 HO Har12
  iintro HL0 HO Har12
  iapply (wp_came Kd Vd κ c 3 M0.vv M0.hvv _ 4 (by decide) (kvP c (pset (lft c) 1) fullShare (kvG Kd Vd)) rfl _ _) $$ HR Hlev Hc13 HO Har13
  iintro HL1 HO Har13
  ihave H' := (parts_blks c fullShare (kvG Kd Vd) (lft c)) $$ [HL0 HL1]
  · isplitl [HL0] <;> iassumption
  unfold blks
  icases H' with ⟨HBL00, HBL01, HBL10, HBL11⟩
  ihave H' := (kv_halves c (lft c) 0 0 (kvG Kd Vd)).1 $$ HBL00
  icases H' with ⟨HEL00, HBL00⟩
  ihave H' := (kv_halves c (lft c) 0 1 (kvG Kd Vd)).1 $$ HBL01
  icases H' with ⟨HEL01, HBL01⟩
  iapply (wp_fwd Kd Vd κ c _ (rgt c) (Fin.ext (k0_dev7_eq c)) 0 (lft c) 0 0 _ (offL00 c) rfl (far0 Kd Vd c) 3 rfl _ _) $$ HR HEL00 HdR00 HO Ht20 Hs20 HmR0
  iintro Hcs20 HO
  iapply (wp_fwd Kd Vd κ c _ (rgt c) (Fin.ext (k0_dev8_eq c)) 1 (lft c) 0 1 _ (offL01 c) rfl (far1 Kd Vd c) 2 rfl _ _) $$ HR HEL01 HdR01 HO Ht21 Hs21 HmR1
  iintro Hcs21 HO
  iapply (wp_get Kd Vd c 0 (lft c) 0 0 _ (offL00 c) fullShare.right _ _ _) $$ Hs0 HBL00 Hd00
  iintro HF0
  iapply (wp_gotOwn Kd Vd c 1 1 1 2 _ _) $$ Hlev HF1 HO
  iintro Hs1 Hk1 Hv1 Hd10 Hd11 HO
  iapply (wp_round Kd Vd c (qryOf X W) 1 3 c 1 1 ![1, 1, 1, 0] ![1, 1, 1, 1] rfl rfl rfl (by decide) (by decide) _ _) $$ HSt Hs1
  iintro HSt Hs1
  iapply (wp_get Kd Vd c 1 (lft c) 0 1 _ (offL01 c) fullShare.right _ _ _) $$ Hs1 HBL01 Hd10
  iintro HF1
  iapply (wp_got Kd Vd c 0 (lft c) 0 0 _ fullShare.right 2 _ _) $$ Hlev HF0 HO
  iintro Hs0 HBL00 Hd00 HO
  iapply (wp_round Kd Vd c (qryOf X W) 0 0 (lft c) 0 0 ![1, 1, 1, 1] ![2, 1, 1, 1] rfl rfl rfl (by decide) (by decide) _ _) $$ HSt Hs0
  iintro HSt Hs0
  iapply (wp_get Kd Vd c 0 (lft c) 1 0 _ (offL10 c) fullShare _ _ _) $$ Hs0 HBL10 Hd00
  iintro HF0
  iapply (wp_got Kd Vd c 1 (lft c) 0 1 _ fullShare.right 2 _ _) $$ Hlev HF1 HO
  iintro Hs1 HBL01 Hd10 HO
  iapply (wp_round Kd Vd c (qryOf X W) 1 1 (lft c) 0 1 ![2, 1, 1, 1] ![2, 2, 1, 1] rfl rfl rfl (by decide) (by decide) _ _) $$ HSt Hs1
  iintro HSt Hs1
  iapply (wp_get Kd Vd c 1 (lft c) 1 1 _ (offL11 c) fullShare _ _ _) $$ Hs1 HBL11 Hd10
  iintro HF1
  iapply (wp_got Kd Vd c 0 (lft c) 1 0 _ fullShare 2 _ _) $$ Hlev HF0 HO
  iintro Hs0 HBL10 Hd00 HO
  iapply (wp_round Kd Vd c (qryOf X W) 0 2 (lft c) 1 0 ![2, 2, 1, 1] ![2, 2, 2, 1] rfl rfl rfl (by decide) (by decide) _ _) $$ HSt Hs0
  iintro HSt Hs0
  -- the right neighbour's
  iapply (wp_came Kd Vd κ c 0 M0.kk M0.hkk _ 2 (by decide) (kvP c (pset (rgt c) 0) fullShare (kvG Kd Vd)) rfl _ _) $$ HR Hlev Hc10 HO Har10
  iintro HR0 HO Har10
  iapply (wp_came Kd Vd κ c 1 M0.vv M0.hvv _ 2 (by decide) (kvP c (pset (rgt c) 1) fullShare (kvG Kd Vd)) rfl _ _) $$ HR Hlev Hc11 HO Har11
  iintro HR1 HO Har11
  ihave H' := (parts_blks c fullShare (kvG Kd Vd) (rgt c)) $$ [HR0 HR1]
  · isplitl [HR0] <;> iassumption
  unfold blks
  icases H' with ⟨HBR00, HBR01, HBR10, HBR11⟩
  ihave H' := (kv_halves c (rgt c) 1 0 (kvG Kd Vd)).1 $$ HBR10
  icases H' with ⟨HER10, HBR10⟩
  ihave H' := (kv_halves c (rgt c) 1 1 (kvG Kd Vd)).1 $$ HBR11
  icases H' with ⟨HER11, HBR11⟩
  iapply (wp_fwd Kd Vd κ c _ (lft c) (Fin.ext (k0_dev9_eq c)) 2 (rgt c) 1 0 _ (offR10 c) rfl (far2 Kd Vd c) 1 rfl _ _) $$ HR HER10 HdL10 HO Ht22 Hs22 HmL2
  iintro Hcs22 HO
  iapply (wp_fwd Kd Vd κ c _ (lft c) (Fin.ext (k0_dev10_eq c)) 3 (rgt c) 1 1 _ (offR11 c) rfl (far3 Kd Vd c) 0 rfl _ _) $$ HR HER11 HdL11 HO Ht23 Hs23 HmL3
  iintro Hcs23 HO
  iapply (wp_get Kd Vd c 0 (rgt c) 0 0 _ (offR00 c) fullShare _ _ _) $$ Hs0 HBR00 Hd00
  iintro HF0
  iapply (wp_got Kd Vd c 1 (lft c) 1 1 _ fullShare 0 _ _) $$ Hlev HF1 HO
  iintro Hs1 HBL11 Hd10 HO
  iapply (wp_round Kd Vd c (qryOf X W) 1 3 (lft c) 1 1 ![2, 2, 2, 1] ![2, 2, 2, 2] rfl rfl rfl (by decide) (by decide) _ _) $$ HSt Hs1
  iintro HSt Hs1
  iapply (wp_get Kd Vd c 1 (rgt c) 0 1 _ (offR01 c) fullShare _ _ _) $$ Hs1 HBR01 Hd10
  iintro HF1
  iapply (wp_got Kd Vd c 0 (rgt c) 0 0 _ fullShare 0 _ _) $$ Hlev HF0 HO
  iintro Hs0 HBR00 Hd00 HO
  iapply (wp_round Kd Vd c (qryOf X W) 0 0 (rgt c) 0 0 ![2, 2, 2, 2] ![3, 2, 2, 2] rfl rfl rfl (by decide) (by decide) _ _) $$ HSt Hs0
  iintro HSt Hs0
  iapply (wp_get Kd Vd c 0 (rgt c) 1 0 _ (offR10 c) fullShare.right _ _ _) $$ Hs0 HBR10 Hd00
  iintro HF0
  iapply (wp_got Kd Vd c 1 (rgt c) 0 1 _ fullShare 0 _ _) $$ Hlev HF1 HO
  iintro Hs1 HBR01 Hd10 HO
  iapply (wp_round Kd Vd c (qryOf X W) 1 1 (rgt c) 0 1 ![3, 2, 2, 2] ![3, 3, 2, 2] rfl rfl rfl (by decide) (by decide) _ _) $$ HSt Hs1
  iintro HSt Hs1
  iapply (wp_get Kd Vd c 1 (rgt c) 1 1 _ (offR11 c) fullShare.right _ _ _) $$ Hs1 HBR11 Hd10
  iintro HF1
  iapply (wp_got Kd Vd c 0 (rgt c) 1 0 _ fullShare.right 0 _ _) $$ Hlev HF0 HO
  iintro Hs0 HBR10 Hd00 HO
  iapply (wp_round Kd Vd c (qryOf X W) 0 2 (rgt c) 1 0 ![3, 3, 2, 2] ![3, 3, 3, 2] rfl rfl rfl (by decide) (by decide) _ _) $$ HSt Hs0
  iintro HSt Hs0
  -- the far device's
  iapply (wp_came2 Kd Vd κ c 0 _ (kvP c (bset (opp c) 0 0) fullShare (kvG Kd Vd)) rfl _ _) $$ HR Hlev Hc20 HO Har20
  iintro HBO00 HO Har20
  iapply (wp_get Kd Vd c 0 (opp c) 0 0 _ (offO00 c) fullShare _ _ _) $$ Hs0 HBO00 Hd00
  iintro HF0
  iapply (wp_got Kd Vd c 1 (rgt c) 1 1 _ fullShare.right 0 _ _) $$ Hlev HF1 HO
  iintro Hs1 HBR11 Hd10 HO
  iapply (wp_round Kd Vd c (qryOf X W) 1 3 (rgt c) 1 1 ![3, 3, 3, 2] ![3, 3, 3, 3] rfl rfl rfl (by decide) (by decide) _ _) $$ HSt Hs1
  iintro HSt Hs1
  iapply (wp_came2 Kd Vd κ c 2 _ (kvP c (bset (opp c) 1 0) fullShare (kvG Kd Vd)) rfl _ _) $$ HR Hlev Hc22 HO Har22
  iintro HBO10 HO Har22
  iapply (wp_get Kd Vd c 1 (opp c) 1 0 _ (offO10 c) fullShare _ _ _) $$ Hs1 HBO10 Hd10
  iintro HF1
  iapply (wp_got Kd Vd c 0 (opp c) 0 0 _ fullShare 0 _ _) $$ Hlev HF0 HO
  iintro Hs0 HBO00 Hd00 HO
  iapply (wp_round Kd Vd c (qryOf X W) 0 0 (opp c) 0 0 ![3, 3, 3, 3] ![4, 3, 3, 3] rfl rfl rfl (by decide) (by decide) _ _) $$ HSt Hs0
  iintro HSt Hs0
  iapply (wp_divide Kd Vd c (qryOf X W) 0 ![4, 3, 3, 3] ![5, 3, 3, 3] (by decide) (by decide) _ _) $$ HSt
  iintro HSt
  iapply (wp_came2 Kd Vd κ c 1 _ (kvP c (bset (opp c) 0 1) fullShare (kvG Kd Vd)) rfl _ _) $$ HR Hlev Hc21 HO Har21
  iintro HBO01 HO Har21
  iapply (wp_get Kd Vd c 0 (opp c) 0 1 _ (offO01 c) fullShare _ _ _) $$ Hs0 HBO01 Hd00
  iintro HF0
  iapply (wp_got Kd Vd c 1 (opp c) 1 0 _ fullShare 0 _ _) $$ Hlev HF1 HO
  iintro Hs1 HBO10 Hd10 HO
  iapply (wp_round Kd Vd c (qryOf X W) 1 2 (opp c) 1 0 ![5, 3, 3, 3] ![5, 3, 4, 3] rfl rfl rfl (by decide) (by decide) _ _) $$ HSt Hs1
  iintro HSt Hs1
  iapply (wp_divide Kd Vd c (qryOf X W) 2 ![5, 3, 4, 3] ![5, 3, 5, 3] (by decide) (by decide) _ _) $$ HSt
  iintro HSt
  iapply (wp_came2 Kd Vd κ c 3 _ (kvP c (bset (opp c) 1 1) fullShare (kvG Kd Vd)) rfl _ _) $$ HR Hlev Hc23 HO Har23
  iintro HBO11 HO Har23
  iapply (wp_get Kd Vd c 1 (opp c) 1 1 _ (offO11 c) fullShare _ _ _) $$ Hs1 HBO11 Hd10
  iintro HF1
  iapply (wp_got Kd Vd c 0 (opp c) 0 1 _ fullShare 0 _ _) $$ Hlev HF0 HO
  iintro Hs0 HBO01 Hd00 HO
  iapply (wp_round Kd Vd c (qryOf X W) 0 1 (opp c) 0 1 ![5, 3, 5, 3] ![5, 4, 5, 3] rfl rfl rfl (by decide) (by decide) _ _) $$ HSt Hs0
  iintro HSt Hs0
  iapply (wp_divide Kd Vd c (qryOf X W) 1 ![5, 4, 5, 3] ![5, 5, 5, 3] (by decide) (by decide) _ _) $$ HSt
  iintro HSt
  iapply (wp_got Kd Vd c 1 (opp c) 1 1 _ fullShare 0 _ _) $$ Hlev HF1 HO
  iintro Hs1 HBO11 Hd10 HO
  iapply (wp_round Kd Vd c (qryOf X W) 1 3 (opp c) 1 1 ![5, 5, 5, 3] ![5, 5, 5, 4] rfl rfl rfl (by decide) (by decide) _ _) $$ HSt Hs1
  iintro HSt Hs1
  iapply (wp_divide Kd Vd c (qryOf X W) 3 ![5, 5, 5, 4] (fun _ => 5) (by decide) (by decide) _ _) $$ HSt
  iintro HSt
  -- everything read out
  iapply (wp_leftK Kd Vd κ c 0 _ (kkP Kd c shL) rfl _ _) $$ HR Hlev Hcs10 HO Has10
  iintro HkL HO Has10
  iapply (wp_leftV Kd Vd κ c 1 _ (vvP Vd c shL) rfl _ _) $$ HR Hlev Hcs11 HO Has11
  iintro HvL HO Has11
  iapply (wp_leftK Kd Vd κ c 2 _ (kkP Kd c shR) rfl _ _) $$ HR Hlev Hcs12 HO Has12
  iintro HkR HO Has12
  iapply (wp_leftV Kd Vd κ c 3 _ (vvP Vd c shR) rfl _ _) $$ HR Hlev Hcs13 HO Has13
  iintro HvR HO Has13
  iapply (wp_left2 Kd Vd κ c 0 _ (kvP c (bset (lft c) 0 0) fullShare.left (kvG Kd Vd)) rfl _ _) $$ HR Hlev Hcs20 HO Has20
  iintro HEL00 HO Has20
  iapply (wp_left2 Kd Vd κ c 1 _ (kvP c (bset (lft c) 0 1) fullShare.left (kvG Kd Vd)) rfl _ _) $$ HR Hlev Hcs21 HO Has21
  iintro HEL01 HO Has21
  iapply (wp_left2 Kd Vd κ c 2 _ (kvP c (bset (rgt c) 1 0) fullShare.left (kvG Kd Vd)) rfl _ _) $$ HR Hlev Hcs22 HO Has22
  iintro HER10 HO Has22
  iapply (wp_last c)
  iapply (wp_left2 Kd Vd κ c 3 _ (kvP c (bset (rgt c) 1 1) fullShare.left (kvG Kd Vd)) rfl _ _) $$ HR Hlev Hcs23 HO Has23
  iintro HER11 HO Has23
  iapply (wp_end c)
  iapply Hend $$ [HaB Has10 Has11 Has12 Has13 Har10 Har11 Har12 Har13 Has20 Has21 Has22 Has23 Har20 Har21 Har22 Har23 Hd00 Hd01 Hd10 Hd11 HO]
  · unfold spent places four dms
    dsimp only [osemT, arr4]
    isplitl [HaB]; · iexact HaB
    isplitl [Has10 Has11 Has12 Has13]
    · isplitl [Has10]; · iexact Has10
      isplitl [Has11]; · iexact Has11
      isplitl [Has12]; · iexact Has12
      iexact Has13
    isplitl [Har10 Har11 Har12 Har13]
    · isplitl [Har10]; · iexact Har10
      isplitl [Har11]; · iexact Har11
      isplitl [Har12]; · iexact Har12
      iexact Har13
    isplitl [Has20 Has21 Has22 Has23]
    · isplitl [Has20]; · iexact Has20
      isplitl [Has21]; · iexact Has21
      isplitl [Has22]; · iexact Has22
      iexact Has23
    isplitl [Har20 Har21 Har22 Har23]
    · isplitl [Har20]; · iexact Har20
      isplitl [Har21]; · iexact Har21
      isplitl [Har22]; · iexact Har22
      iexact Har23
    isplitl [Hd00 Hd01 Hd10 Hd11]
    · isplitl [Hd00]; · iexact Hd00
      isplitl [Hd01]; · iexact Hd01
      isplitl [Hd10]; · iexact Hd10
      iexact Hd11
    iexact HO
  ihave HBL00 := (kv_halves c (lft c) 0 0 (kvG Kd Vd)).2 $$ [HEL00 HBL00]
  · isplitl [HEL00] <;> iassumption
  ihave HBL01 := (kv_halves c (lft c) 0 1 (kvG Kd Vd)).2 $$ [HEL01 HBL01]
  · isplitl [HEL01] <;> iassumption
  ihave HBR10 := (kv_halves c (rgt c) 1 0 (kvG Kd Vd)).2 $$ [HER10 HBR10]
  · isplitl [HER10] <;> iassumption
  ihave HBR11 := (kv_halves c (rgt c) 1 1 (kvG Kd Vd)).2 $$ [HER11 HBR11]
  · isplitl [HER11] <;> iassumption
  unfold arrEnd St
  icases HSt with ⟨Ho, Hl, Hq⟩
  isplitl [Hown HBL00 HBL01 HBL10 HBL11 HBR00 HBR01 HBR10 HBR11 HBO00 HBO01 HBO10 HBO11]
  · iapply (kv_join Kd Vd c f0)
    unfold blks
    isplitl [Hown]; · iexact Hown
    isplitl [HBL00 HBL01 HBL10 HBL11]
    · isplitl [HBL00]; · iexact HBL00
      isplitl [HBL01]; · iexact HBL01
      isplitl [HBL10] <;> iassumption
    isplitl [HBR00 HBR01 HBR10 HBR11]
    · isplitl [HBR00]; · iexact HBR00
      isplitl [HBR01]; · iexact HBR01
      isplitl [HBR10] <;> iassumption
    isplitl [HBO00]; · iexact HBO00
    isplitl [HBO01]; · iexact HBO01
    isplitl [HBO10] <;> iassumption
  isplitl [HkL HkR Hk0 Hk1]
  · iapply (kk_shares Kd c).2
    isplitl [HkL]; · iexact HkL
    isplitl [HkR]; · iexact HkR
    isplitl [Hk0] <;> iassumption
  isplitl [HvL HvR Hv0 Hv1]
  · iapply (vv_shares Vd c).2
    isplitl [HvL]; · iexact HvL
    isplitl [HvR]; · iexact HvR
    isplitl [Hv0] <;> iassumption
  isplitl [Hx]; · iexact Hx
  isplitl [Hw]; · iexact Hw
  isplitl [Ho]; · iexact Ho
  isplitl [Hl]; · iexists _; iexact Hl
  isplitl [Hq]; · iexists _; iexact Hq
  isplitl [Hs0]; · iexists _; iexact Hs0
  iexists _; iexact Hs1

end Drive

end Cert.KernelIdeal.Struct

end
-- ==== Proof.Ghost.lean ====
/- The launch: the cells' invariants, who holds which token, what each device may draw on, and the
   opening and closing of the cells around the body. -/
module

public import proofs.«01_k».proof.Proof.Drive
public import proofs.«01_k».proof.Proof.Gen.KernelIdeal.Launch

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ### Families of four and sixteen -/

theorem four_eq (Φ : Fin 4 → sProp 𝕄) : bigSep Finset.univ Φ = four Φ := by
  rw [show (Finset.univ : Finset (Fin 4)) = {0, 1, 2, 3} from by decide, bigSep_insert (by decide), bigSep_insert (by decide), bigSep_insert (by decide), bigSep_singleton]
  rfl
theorem deal_split {I : Type} [Fintype I] [DecidableEq I] (Φ Ψ : I → sProp 𝕄) :
    (bigSep Finset.univ fun i => iprop(Φ i ∗ Ψ i)) ⊢ iprop(bigSep Finset.univ Φ ∗ bigSep Finset.univ Ψ) := Entails.of_eq (bigSep_sep' _ _ _)
theorem deal_join {I : Type} [Fintype I] [DecidableEq I] (Φ Ψ : I → sProp 𝕄) :
    iprop(bigSep Finset.univ Φ ∗ bigSep Finset.univ Ψ) ⊢ bigSep Finset.univ fun i => iprop(Φ i ∗ Ψ i) := Entails.of_eq (bigSep_sep' _ _ _).symm
theorem sixteen_eq (Φ : Fin 4 × Fin 4 → sProp 𝕄) : bigSep Finset.univ Φ = four fun a => four fun i => Φ (a, i) := by
  rw [bigSep_univ_prod, four_eq]; simp only [four_eq]
theorem two_eq (Φ : Fin 2 × Fin 2 → sProp 𝕄) : bigSep Finset.univ Φ = iprop((Φ (0, 0) ∗ Φ (0, 1)) ∗ Φ (1, 0) ∗ Φ (1, 1)) := by
  rw [bigSep_univ_prod, BI.bigSep_fin_two, BI.bigSep_fin_two, BI.bigSep_fin_two]; rfl

/-! ### The kernel's own semaphores -/

/-- The local copies' and the talk's. -/
def osem : Fin 2 × Fin 2 ⊕ Fin 4 × Fin 4 → SemLoc sig := Sum.elim (fun p => .dma (sem22 M0.dm p.1 p.2)) osemT
theorem osem_facts : Pipeline.OwnSemFacts spec0 osem := by decide +kernel

theorem ownSems_eq (c : Dev nD) : (Pipeline.ownSems0 osem c : sProp 𝕄)
    = iprop(((dmV c 0 0 ∗ dmV c 0 1) ∗ dmV c 1 0 ∗ dmV c 1 1) ∗ bigSep Finset.univ fun ai : Fin 4 × Fin 4 => semVal ((c : Thread nD τ), osemT ai) 0) := by
  unfold Pipeline.ownSems0
  rw [bigSep_univ_sum, two_eq]
  rfl

/-! ### Opening and closing the cells -/

section Cells
variable (Kd Vd : Dev nD → Vec F S2x2x512x1024 .f32) (κ : GSem nD τ sig → ℕ) (c : Dev nD)

/-- What stays with one device: its barrier's place, its rights to open, the tokens of its payments. -/
def linear : sProp 𝕄 := iprop(atPos ER (barC c) 0 ∅ 0 ∗ (bigSep Finset.univ fun ai : Fin 4 × Fin 4 => openTok ER ((c : Thread nD τ), osemT ai)) ∗ toks c)
/-- What every device may consult: the invariants, and that every barrier is ready. -/
def records : sProp 𝕄 := iprop(recs Kd Vd κ ∗ bigSep barCells fun g => reached ER g 0)
instance records_persistent : BI.Persistent (records Kd Vd κ) := by unfold records; infer_instance
/-- The protocol's state before the region, and at its body. -/
def held0 : sProp 𝕄 := iprop((∃ κ, records Kd Vd κ ∗ linear c) ∗ creds c)
def held1 : sProp 𝕄 := iprop((∃ κ, recs Kd Vd κ ∗ known c ∗ atPos ER (barC c) 0 ∅ 0 ∗ places c 0 0 ∗ places c 0 1 ∗ places c 0 2 ∗ places c 0 3 ∗ toks c)
  ∗ creds c ∗ dms c ∗ levAts L lv)

theorem open_all : iprop(held0 Kd Vd c ∗ Pipeline.ownSems0 osem c ∗ levAts L lv) ⊢ (|={Set.univ}=> held1 Kd Vd c : sProp 𝕄) := by
  rw [ownSems_eq]
  unfold held0 held1 linear records
  iintro ⟨⟨⟨%κ, ⟨#HR, #Hbar⟩, Hat, Hop, Ht⟩, Hcr⟩, ⟨⟨⟨H00, H01⟩, H10, H11⟩, Hs⟩, #Hlev⟩
  ihave Hco := (bigSep_with_persistent (R := recs Kd Vd κ) (Φ := fun ai : Fin 4 × Fin 4 => openTok ER ((c : Thread nD τ), osemT ai))
    (Ψ := fun ai => iprop(cellInv ER (sched Kd Vd) (κ ((c : Thread nD τ), osemT ai)) ((c : Thread nD τ), osemT ai) ∗ openTok ER ((c : Thread nD τ), osemT ai)))
    (fun ai _ => sep_mono_left (inv_sc Kd Vd κ c ai))) $$ [Hop]
  · isplitr; · iexact HR
    iexact Hop
  imod (Rounds.cells_open ER (sched Kd Vd) Finset.univ (fun ai : Fin 4 × Fin 4 => (((c : Thread nD τ), osemT ai) : GSem nD τ sig))
    (fun ai => κ ((c : Thread nD τ), osemT ai)) (fun ai _ => Set.mem_univ _)) $$ [Hco Hs] with Hall
  · isplitl [Hco] <;> iassumption
  ihave H2 := deal_split _ _ $$ Hall; icases H2 with ⟨Hpl, Hre⟩
  ihave Hpl := (Entails.of_eq (sixteen_eq (F := F) _)) $$ Hpl
  ihave Hre := (Entails.of_eq (sixteen_eq (F := F) _)) $$ Hre
  ihave #Hbl := (show (bigSep barCells fun g => (reached ER g 0 : sProp 𝕄)) ⊢ reached ER (barC (lft c)) 0 from bigSep_elim (Finset.mem_map_of_mem barEmb (Finset.mem_univ (lft c)))) $$ Hbar
  ihave #Hbr := (show (bigSep barCells fun g => (reached ER g 0 : sProp 𝕄)) ⊢ reached ER (barC (rgt c)) 0 from bigSep_elim (Finset.mem_map_of_mem barEmb (Finset.mem_univ (rgt c)))) $$ Hbar
  imodintro
  unfold known places dms four
  icases Hpl with ⟨Hp0, Hp1, Hp2, Hp3⟩
  icases Hre with ⟨Hr0, Hr1, Hr2, Hr3⟩
  isplitl [Hat Ht Hp0 Hp1 Hp2 Hp3 Hr0 Hr1 Hr2 Hr3]
  · iexists κ
    isplitr; · iexact HR
    isplitl [Hr0 Hr1 Hr2 Hr3]
    · isplitr; · iexact Hbl
      isplitr; · iexact Hbr
      isplitl [Hr0]; · iexact Hr0
      isplitl [Hr1]; · iexact Hr1
      isplitl [Hr2] <;> iassumption
    isplitl [Hat]; · iexact Hat
    isplitl [Hp0]; · iexact Hp0
    isplitl [Hp1]; · iexact Hp1
    isplitl [Hp2]; · iexact Hp2
    isplitl [Hp3] <;> iassumption
  isplitl [Hcr]; · iexact Hcr
  isplitl [H00 H01 H10 H11]
  · isplitl [H00]; · iexact H00
    isplitl [H01]; · iexact H01
    isplitl [H10] <;> iassumption
  iexact Hlev

theorem close_all : iprop(recs Kd Vd κ ∗ spent c) ⊢ (|={Set.univ}=> iprop(semVal (barC c) 0 ∗ Pipeline.ownSems0 osem c ∗ Ow c 0) : sProp 𝕄) := by
  rw [ownSems_eq]
  unfold spent dms
  iintro ⟨#HR, Hat, Hp0, Hp1, Hp2, Hp3, ⟨H00, H01, H10, H11⟩, HO⟩
  ihave Hpl : (bigSep Finset.univ fun ai : Fin 4 × Fin 4 => atPos ER ((c : Thread nD τ), osemT ai) 1 ∅ 0) $$ [Hp0 Hp1 Hp2 Hp3]
  · rw [sixteen_eq]
    unfold places four
    isplitl [Hp0]; · iexact Hp0
    isplitl [Hp1]; · iexact Hp1
    isplitl [Hp2] <;> iassumption
  ihave Hco := (bigSep_with_persistent (R := recs Kd Vd κ) (Φ := fun ai : Fin 4 × Fin 4 => atPos ER ((c : Thread nD τ), osemT ai) 1 ∅ 0)
    (Ψ := fun ai => iprop(cellInv ER (sched Kd Vd) (κ ((c : Thread nD τ), osemT ai)) ((c : Thread nD τ), osemT ai) ∗ atPos ER ((c : Thread nD τ), osemT ai) 1 ∅ 0))
    (fun ai _ => sep_mono_left (inv_sc Kd Vd κ c ai))) $$ [Hpl]
  · isplitr; · iexact HR
    iexact Hpl
  imod (Rounds.cells_close ER (sched Kd Vd) Finset.univ (fun ai : Fin 4 × Fin 4 => (((c : Thread nD τ), osemT ai) : GSem nD τ sig))
    (fun ai => κ ((c : Thread nD τ), osemT ai)) (fun ai _ => Set.mem_univ _) (fun ai _ => id) (fun _ => 1) (fun ai _ => duties_later Kd Vd _)) $$ Hco with Hs
  imod (Rounds.cell_close ER (sched Kd Vd) (Set.mem_univ (κ (barC c))) id (duties_later Kd Vd (barC c))) $$ [Hat] with Hb
  · isplitr; · iapply (inv_bar Kd Vd κ c); iexact HR
    iexact Hat
  imodintro
  isplitl [Hb]; · iexact Hb
  isplitl [H00 H01 H10 H11 Hs]
  · isplitl [H00 H01 H10 H11]
    · isplitl [H00 H01]; · isplitl [H00] <;> iassumption
      isplitl [H10] <;> iassumption
    iexact Hs
  iexact HO
end Cells

/-! ### What the launch deals -/

theorem osemT_ne_bar (ai : Fin 4 × Fin 4) : osemT ai ≠ .reg bar := by revert ai; decide
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osemT_ne_bar p.2 (congrArg Prod.snd h)

/-- One device's duties: the barrier's two, and one per copy's semaphore. -/
def tkey : Fin 2 ⊕ Fin 4 × Fin 4 → SemLoc sig × Fin 2 := Sum.elim (fun d => (.reg bar, d)) (fun ai => (osemT ai, 0))
theorem tkey_inj : Function.Injective tkey := by decide +kernel
def tokEmb : Dev nD × (Fin 2 ⊕ Fin 4 × Fin 4) ↪ GSem nD τ sig × ℕ × Fin 2 :=
  ⟨fun p => (((p.1 : Thread nD τ), (tkey p.2).1), 0, (tkey p.2).2), fun p p' h => by
    have h1 : (p.1 : Thread nD τ) = (p'.1 : Thread nD τ) := congrArg (fun t : GSem nD τ sig × ℕ × Fin 2 => t.1.1) h
    exact Prod.ext (congrArg (fun t : Thread nD τ => t.1) h1)
      (tkey_inj (Prod.ext (congrArg (fun t : GSem nD τ sig × ℕ × Fin 2 => t.1.2) h) (congrArg (fun t : GSem nD τ sig × ℕ × Fin 2 => t.2.2) h)))⟩
def talkToks : Finset (GSem nD τ sig × ℕ × Fin 2) := Finset.univ.map tokEmb

def turnL : Dev nD ≃ Dev nD := ⟨lft, rgt, rgt_lft, lft_rgt⟩
def turnR : Dev nD ≃ Dev nD := ⟨rgt, lft, lft_rgt, rgt_lft⟩

theorem deal_left (Φ : Dev nD → sProp 𝕄) : bigSep Finset.univ Φ = bigSep Finset.univ fun c => Φ (lft c) := bigSep_univ_equiv turnL Φ
theorem deal_right (Φ : Dev nD → sProp 𝕄) : bigSep Finset.univ Φ = bigSep Finset.univ fun c => Φ (rgt c) := bigSep_univ_equiv turnR Φ

/-- The tokens, by the device whose cell they are of. -/
def mine (c : Dev nD) : sProp 𝕄 :=
  iprop((dutyTok ER (barC c) 0 0 ∗ dutyTok ER (barC c) 0 1)
    ∗ (four fun i => dutyTok ER (s1C c i) 0 0) ∗ (four fun i => dutyTok ER (r1C c i) 0 0) ∗ (four fun i => dutyTok ER (s2C c i) 0 0) ∗ (four fun i => dutyTok ER (r2C c i) 0 0))

theorem toks_mine : bigSep talkToks (fun x => (dutyTok ER x.1 x.2.1 x.2.2 : sProp 𝕄)) = bigSep Finset.univ fun c : Dev nD => mine c := by
  unfold talkToks; rw [bigSep_map, bigSep_univ_prod]
  exact bigSep_congr fun c _ => by rw [bigSep_univ_sum, sixteen_eq, BI.bigSep_fin_two]; rfl

theorem toks_dealt : (bigSep Finset.univ fun c : Dev nD => (mine c : sProp 𝕄)) ⊢ bigSep Finset.univ fun c : Dev nD => toks c := by
  unfold mine toks tok1 tok2 four
  simp only [bigSep_sep']
  rw [deal_left (fun c : Dev nD => (dutyTok ER (barC c) 0 0 : sProp 𝕄)), deal_right (fun c : Dev nD => (dutyTok ER (barC c) 0 1 : sProp 𝕄)),
    deal_left (fun c : Dev nD => (dutyTok ER (r1C c 0) 0 0 : sProp 𝕄)), deal_left (fun c : Dev nD => (dutyTok ER (r1C c 1) 0 0 : sProp 𝕄)),
    deal_right (fun c : Dev nD => (dutyTok ER (r1C c 2) 0 0 : sProp 𝕄)), deal_right (fun c : Dev nD => (dutyTok ER (r1C c 3) 0 0 : sProp 𝕄)),
    deal_right (fun c : Dev nD => (dutyTok ER (r2C c 0) 0 0 : sProp 𝕄)), deal_right (fun c : Dev nD => (dutyTok ER (r2C c 1) 0 0 : sProp 𝕄)),
    deal_left (fun c : Dev nD => (dutyTok ER (r2C c 2) 0 0 : sProp 𝕄)), deal_left (fun c : Dev nD => (dutyTok ER (r2C c 3) 0 0 : sProp 𝕄))]
  iintro ⟨⟨HB0, HB1⟩, ⟨Hs0, Hs1, Hs2, Hs3⟩, ⟨Hr0, Hr1, Hr2, Hr3⟩, ⟨Ht0, Ht1, Ht2, Ht3⟩, ⟨Hu0, Hu1, Hu2, Hu3⟩⟩
  isplitl [HB0]; · iexact HB0
  isplitl [HB1]; · iexact HB1
  isplitl [Hs0 Hs1 Hs2 Hs3 Hr0 Hr1 Hr2 Hr3]
  · isplitl [Hs0 Hr0]; · isplitl [Hs0] <;> iassumption
    isplitl [Hs1 Hr1]; · isplitl [Hs1] <;> iassumption
    isplitl [Hs2 Hr2]; · isplitl [Hs2] <;> iassumption
    isplitl [Hs3] <;> iassumption
  isplitl [Ht0 Hu0]; · isplitl [Ht0] <;> iassumption
  isplitl [Ht1 Hu1]; · isplitl [Ht1] <;> iassumption
  isplitl [Ht2 Hu2]; · isplitl [Ht2] <;> iassumption
  isplitl [Ht3] <;> iassumption

/-! ### The credit -/

/-- What each device owes at the launch. -/
abbrev O₀ (c : Dev nD) : CellTallies nD τ sig Unit := own c 10

/-- The device that makes the `k`-th payment to `c`. -/
def payInv (c : Dev nD) : Nat → Dev nD
  | 0 => rgt c | 1 => rgt c | 2 => lft c | 3 => lft c
  | 4 => lft c | 5 => lft c | 6 => rgt c | 7 => rgt c
  | 8 => lft c | _ => rgt c
theorem payDev_iff (c d : Dev nD) : ∀ k, k < 10 → (payDev d k = c ↔ d = payInv c k) := by
  intro k hk; interval_cases k <;> revert c d <;> decide

theorem own_apply (c : Dev nD) (n : Nat) (g : GSem nD τ sig) :
    own c n g () = ∑ k ∈ Finset.range n, if g = payCell c k then amountOf (paySem k) else 0 := by
  induction n with
  | zero => rfl
  | succ n ih =>
    rw [Finset.sum_range_succ, ← ih]
    show (own c n + tallyAt (payCell c n) () (amountOf (paySem n))) g () = _
    rw [Pi.add_apply, Finsupp.add_apply, tallyAt_apply]
    simp

theorem owed_total (c : Dev nD) (sm : SemLoc sig) :
    ∑ d : Dev nD, O₀ d ((c : Thread nD τ), sm) () = ((Finset.range 10).filter fun k => sm = paySem k).card * amountOf sm := by
  simp only [own_apply]
  rw [Finset.sum_comm]
  have h : ∀ k ∈ Finset.range 10, (∑ d : Dev nD, if (((c : Thread nD τ), sm) : GSem nD τ sig) = payCell d k then amountOf (paySem k) else 0)
      = if sm = paySem k then amountOf sm else 0 := by
    intro k hk
    have hk := Finset.mem_range.mp hk
    rw [Finset.sum_eq_single (payInv c k)]
    · have e : payDev (payInv c k) k = c := (payDev_iff c _ k hk).mpr rfl
      by_cases hs : sm = paySem k
      · subst hs; rw [if_pos rfl, if_pos]; unfold payCell; rw [e]
      · rw [if_neg hs, if_neg fun h => hs (congrArg Prod.snd h)]
    · intro d _ hd
      refine if_neg fun h => hd ?_
      have h1 : (c : Thread nD τ) = (payDev d k : Thread nD τ) := congrArg Prod.fst h
      exact (payDev_iff c d k hk).mp (congrArg (fun t : Thread nD τ => t.1) h1).symm
    · intro h; exact absurd (Finset.mem_univ _) h
  rw [Finset.sum_congr rfl h, ← Finset.sum_filter, Finset.sum_const, smul_eq_mul]

theorem credit_at (c : Dev nD) (sm : SemLoc sig) (n : ℕ) (hn : ((Finset.range 10).filter fun k => sm = paySem k).card * amountOf sm = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, owed_total, hn]

/-- The cells drawn on. -/
def ckey : Unit ⊕ Fin 4 ⊕ Fin 4 → SemLoc sig := Sum.elim (fun _ => .reg bar) (Sum.elim (fun i => osemT (1, i)) fun i => osemT (3, i))
theorem ckey_inj : Function.Injective ckey := by decide +kernel

theorem creds_of (c : Dev nD) : (Pipeline.launchCred O₀ c : sProp 𝕄) ⊢ creds c := by
  unfold Pipeline.launchCred
  suffices e : (bigSep (Finset.univ.map ⟨ckey, ckey_inj⟩) fun sm : SemLoc sig =>
      (cred (tallyOn ((c : Thread nD τ), sm) (launchCredit (Pipeline.owing O₀) 0 ((c : Thread nD τ), sm))) : sProp 𝕄)) = creds c by
    rw [← e]; exact bigSep_subset (Finset.subset_univ _)
  rw [bigSep_map, bigSep_univ_sum, bigSep_univ_sum, four_eq, four_eq, show (Finset.univ : Finset Unit) = {()} from rfl, bigSep_singleton]
  unfold creds
  have hB : ((Finset.range 10).filter fun k => (.reg bar : SemLoc sig) = paySem k).card * amountOf (.reg bar : SemLoc sig) = 2 := by
    rw [show ((Finset.range 10).filter fun k => (.reg bar : SemLoc sig) = paySem k).card = 2 from by decide]; rfl
  have h1 : ∀ i : Fin 4, ((Finset.range 10).filter fun k => osemT (1, i) = paySem k).card * amountOf (osemT (1, i)) = N1 := fun i => by
    rw [show ((Finset.range 10).filter fun k => osemT (1, i) = paySem k).card = 1 from by revert i; decide, Nat.one_mul]
    exact if_pos (show (sem4 (arr4 1) i).val < 15 from by revert i; decide)
  have h3 : ∀ i : Fin 4, ((Finset.range 10).filter fun k => osemT (3, i) = paySem k).card * amountOf (osemT (3, i)) = N2 := fun i => by
    rw [show ((Finset.range 10).filter fun k => osemT (3, i) = paySem k).card = 1 from by revert i; decide, Nat.one_mul]
    exact if_neg (show ¬ (sem4 (arr4 3) i).val < 15 from by revert i; decide)
  have e1 : ∀ i : Fin 4, (cred (tallyOn ((c : Thread nD τ), osemT (1, i)) (launchCredit (Pipeline.owing O₀) 0 ((c : Thread nD τ), osemT (1, i)))) : sProp 𝕄)
      = cred (tallyAt (r1C c i) () N1) := fun i => congrArg cred (credit_at c (osemT (1, i)) N1 (h1 i))
  have e3 : ∀ i : Fin 4, (cred (tallyOn ((c : Thread nD τ), osemT (3, i)) (launchCredit (Pipeline.owing O₀) 0 ((c : Thread nD τ), osemT (3, i)))) : sProp 𝕄)
      = cred (tallyAt (r2C c i) () N2) := fun i => congrArg cred (credit_at c (osemT (3, i)) N2 (h3 i))
  have eB : (cred (tallyOn ((c : Thread nD τ), .reg bar) (launchCredit (Pipeline.owing O₀) 0 ((c : Thread nD τ), .reg bar))) : sProp 𝕄)
      = cred (tallyAt (barC c) () 2) := congrArg cred (credit_at c (.reg bar) 2 hB)
  exact congr (congrArg BI.sep eB) (congr (congrArg BI.sep (congrArg four (funext e1))) (congrArg four (funext e3)))

end Cert.KernelIdeal.Struct

end
-- ==== Proof.BodyEq.lean ====
/- The printed body is the structured one. -/
module

public import proofs.«01_k».proof.Proof.Body

@[expose] public section

noncomputable section

namespace Cert.KernelIdeal.Struct

open Idealize.ShloMosaic Idealize.SL.Sem
open Cert.KernelIdeal.Gen

variable {F : FTy → Type} [FloatOps F]

set_option maxRecDepth 100000 in
set_option maxHeartbeats 0 in
/-- The printed body is the structured program. -/
theorem body_eq (M : Mem) :
    cc0__fused_body (F := F) M.xs M.hxs M.wq M.hwq M.kk M.hkk M.vv M.hvv M.o M.ho M.kv M.hkv M.q M.hq M.b M.hb M.l M.hl M.dm M.s1 M.r1 M.s2 M.r2 = body M := rfl

end Cert.KernelIdeal.Struct

end
-- ==== Proof.Region.lean ====
/- The kernel's pass as the pipeline runs it: what every device holds before and after, and the body met at its
   one point. -/
module

public import proofs.«01_k».proof.Proof.Ghost
public import proofs.«01_k».proof.Proof.BodyEq
public import proofs.«01_k».proof.Proof.Gen.KernelIdeal.Frame
public import Idealize.ShloMosaic.Lib.Pipeline.TalkSched
public import Idealize.ShloMosaic.Lib.Pipeline.RegionTalk
public import Idealize.ShloMosaic.Lib.Pipeline.ValueKit

@[expose] public section

noncomputable section

namespace Cert.KernelIdeal.Struct

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

/-! ### The work buffer and its two slots -/

abbrev bP (c : Dev nD) (f : Vec F S2x512x2048 .f32) : sProp 𝕄 := (M0.b.view.loc (c : Thread nD τ)) ↦{fullShare} f

theorem b_cut (c : Dev nD) (f : Vec F S2x512x2048 .f32) : (bP c f : sProp 𝕄) ⊣⊢ iprop(slotP c 0 f ∗ slotP c 1 f) := by
  have e : (Finset.univ : Finset S2x512x2048.Idx) = (slot M0.b 0).view.set ∪ (slot M0.b 1).view.set := Finset.ext fun i => by
    have h0 : (i 0).val < 2 := (i 0).isLt
    rw [Finset.mem_union, mem_slot, mem_slot, Fin.val_zero, Fin.val_one]
    exact iff_of_true (Finset.mem_univ _) (by omega)
  have hd : Disjoint ((slot M0.b 0).view.set : Finset S2x512x2048.Idx) (slot M0.b 1).view.set := Finset.disjoint_left.mpr fun i h h' => by
    rw [mem_slot, Fin.val_zero] at h; rw [mem_slot, Fin.val_one] at h'; omega
  have h := pointsTo_union (nD := nD) (τ := τ) (sig := sig) (Ix := Unit) (Val := Elt F) (Name := ℕ) (U := UU) (Lvl := ℕ)
    (ℓ := M0.b.view.loc (c : Thread nD τ)) (q := fullShare) (f := f) hd
  show (((M0.b.view.loc (c : Thread nD τ)) ↦[(Finset.univ : Finset S2x512x2048.Idx)]{fullShare} f) : sProp 𝕄) ⊣⊢ _
  rw [e]; exact h

theorem b_glue (c : Dev nD) : iprop((∃ f, slotP c 0 f) ∗ (∃ f, slotP c 1 f)) ⊢ (iprop(∃ f, bP c f) : sProp 𝕄) := by
  iintro ⟨⟨%fa, Ha⟩, ⟨%fb, Hb⟩⟩
  iexists (fun i => if (i 0).val = 0 then fa i else fb i)
  iapply (b_cut c _).2
  isplitl [Ha]
  · iapply (Entails.of_eq (pointsTo_congr (f := fa) fun i hi => (if_pos ((mem_slot 0 i).mp hi)).symm)) $$ Ha
  · iapply (Entails.of_eq (pointsTo_congr (f := fb) fun i hi => (if_neg (by rw [(mem_slot 1 i).mp hi]; decide)).symm)) $$ Hb

/-! ### What the pass starts from and what it leaves -/

variable (m : (ℓ : Loc nD τ sig) → Buf (Elt F) ℓ)

/-- Every device's keys, values, rows and projection when the pass starts. -/
abbrev Kd (c : Dev nD) : Vec F S2x2x512x1024 .f32 := V m c main_v10
abbrev Vd (c : Dev nD) : Vec F S2x2x512x1024 .f32 := V m c main_v16
abbrev Xd (c : Dev nD) : Vec F S4x512x1024 .f32 := V m c main_v4
abbrev Wd (c : Dev nD) : Vec F S1024x1024 .f32 := V m c main_arg1
abbrev kv0 (c : Dev nD) : Vec F S4x2x2x512x2048 .f32 := V m c main_v17_1
/-- The pass's output, and the gathered buffer's contents. -/
def oEnd (c : Dev nD) : Vec F S4x512x1024 .f32 := oFin (Kd m) (Vd m) c (qryOf (Xd m c) (Wd m c))
def kvFin (c : Dev nD) : Vec F S4x2x2x512x2048 .f32 := kvEnd (Kd m) (Vd m) c (kv0 m c)

/-- The three scratch buffers at contents not chosen. -/
def scratch (c : Dev nD) : sProp 𝕄 := iprop((∃ f, qP c f) ∗ (∃ f, bP c f) ∗ (∃ f, lP c f))

def phiA (c : Dev nD) : sProp 𝕄 := iprop(held1 (Kd m) (Vd m) c
  ∗ (kkP (Kd m) c fullShare ∗ vvP (Vd m) c fullShare ∗ kvP c Finset.univ fullShare (kv0 m c)) ∗ scratch c ∗ ∃ r, prngReg c r)
def phiB (c : Dev nD) : sProp 𝕄 := iprop((semVal (barC c) 0 ∗ Pipeline.ownSems0 osem c)
  ∗ (kkP (Kd m) c fullShare ∗ vvP (Vd m) c fullShare ∗ kvP c Finset.univ fullShare (kvFin m c)) ∗ scratch c ∗ ∃ r, prngReg c r)

def dat (c : Dev nD) : Dat τ (Elt F) Unit ℕ UU ℕ cfg0 c where
  A w := V m c (Pipeline.arrRef spec0 w)
  after w t := match w with
    | 0 => iblk m c 0 t
    | 1 => iblk m c 1 t
    | 2 => oEnd m c
  Φ t := if t.val = 0 then phiA m c else phiB m c
  q w := fullShare
  owed t := if t.val = 0 then O₀ c else 0
  recorded t := Set.univ

set_option maxRecDepth 16384 in
theorem iblk_0 (c : Dev nD) (t : Fin cfg0.N) : iblk m c 0 t = Xd m c := by
  obtain rfl := fin_N0 t; funext j
  refine congrArg (V m c main_v4) (funext fun a => Fin.ext ?_)
  blk_simp
  rw [show win0_0.index t0_0 a = 0 from rfl, Nat.zero_mul, Nat.zero_add]
set_option maxRecDepth 16384 in
theorem iblk_1 (c : Dev nD) (t : Fin cfg0.N) : iblk m c 1 t = Wd m c := by
  obtain rfl := fin_N0 t; funext j
  refine congrArg (V m c main_arg1) (funext fun a => Fin.ext ?_)
  blk_simp
  rw [show win0_1.index t0_0 a = 0 from rfl, Nat.zero_mul, Nat.zero_add]

theorem dat_before0 (c : Dev nD) (t : Fin cfg0.N) (d) : (dat m c).before 0 t d = iblk m c 0 t :=
  ((dat m c).before_in_eq_fetched 0 rfl (fun _ => rfl) (fun _ _ _ => rfl) (fun t => rfl) t d).trans rfl
theorem dat_before1 (c : Dev nD) (t : Fin cfg0.N) (d) : (dat m c).before 1 t d = iblk m c 1 t :=
  ((dat m c).before_in_eq_fetched 1 rfl (fun _ => rfl) (fun _ _ _ => rfl) (fun t => rfl) t d).trans rfl

set_option maxRecDepth 16384 in
/-- The pass's output array ends as the body leaves it. -/
theorem arr_o (c : Dev nD) : (dat m c).arrAt 2 cfg0.N = oEnd m c := by
  refine (dat m c).arrAt_eq_of_after_last 2 t0_0 (by decide +kernel) _ fun j => ?_
  show oEnd m c _ = oEnd m c _
  refine congrArg (oEnd m c) (funext fun a => Fin.ext ?_)
  blk_simp

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem owed_succ (c : Dev nD) : (dat m c).owed t0_0.succ = 0 := by
  show (if (t0_0.succ : Fin (cfg0.N + 1)).val = 0 then O₀ c else 0) = 0; exact if_neg (Nat.succ_ne_zero _)

theorem lift_device (g : Dev nD → P F) :
    (do let d : Dev nD ← Prog.lift .deviceId
        g d : P F) = Prog.op .deviceId g := rfl
/-- The printed body starts by asking for the device's number. -/
theorem wp_enter (c : Dev nD) (Q : PUnit → sProp 𝕄) :
    WP c (rest M0 c) Q ⊢ wp frame (wpE defs₀ 𝒱₀ (c : Thread nD τ) none) Set.univ (bodyAt0 (F := F) t0_0) Q := by
  rw [show bodyAt0 (F := F) t0_0 = Cert.KernelIdeal.Struct.body M0 from body_eq M0]
  unfold Cert.KernelIdeal.Struct.body
  generalize (rest (F := F) M0) = g
  rw [lift_device]
  exact Entails.of_eq (wp_deviceId _ _ _ _).symm

set_option maxHeartbeats 2000000 in
set_option maxRecDepth 40000 in
/-- The body at the pass's one point. -/
theorem body_ok (c : Dev nD) : BodyObligation (dat m c) defs₀ 𝒱₀ () Set.univ := fun t => by
  obtain rfl := fin_N0 t
  rw [bigSep_W0, bigSep_W0]
  rw [show (dat m c).Φ t0_0.castSucc = phiA m c from rfl, show (dat m c).Φ t0_0.succ = phiB m c from rfl]
  have hpre : iprop(∃ d, owns (c : Thread nD τ) ((cfg0.win 0).stage (cfg0.slots t0_0 0)) fullShare ((dat m c).before 0 t0_0 d)) ⊢ (xP c (Xd m c) : sProp 𝕄) := by
    iintro ⟨%d, H⟩
    rw [dat_before0, iblk_0]
    iapply (Entails.of_eq (owns_whole (c : Thread nD τ) cc0_stg0_0 fullShare (Xd m c))) $$ H
  have hpre1 : iprop(∃ d, owns (c : Thread nD τ) ((cfg0.win 1).stage (cfg0.slots t0_0 1)) fullShare ((dat m c).before 1 t0_0 d)) ⊢ (wP c (Wd m c) : sProp 𝕄) := by
    iintro ⟨%d, H⟩
    rw [dat_before1, iblk_1]
    iapply (Entails.of_eq (owns_whole (c : Thread nD τ) cc0_stg1_0 fullShare (Wd m c))) $$ H
  have hpre2 : iprop(∃ d, owns (c : Thread nD τ) ((cfg0.win 2).stage (cfg0.slots t0_0 2)) fullShare ((dat m c).before 2 t0_0 d)) ⊢ (iprop(∃ f, oP c f) : sProp 𝕄) := by
    iintro ⟨%d, H⟩
    iexists ((dat m c).before 2 t0_0 d)
    iapply (Entails.of_eq (owns_whole (c : Thread nD τ) cc0_stg2_0 fullShare ((dat m c).before 2 t0_0 d))) $$ H
  have hpost : (xP c (Xd m c) : sProp 𝕄) ⊢ owns (c : Thread nD τ) ((cfg0.win 0).stage (cfg0.slots t0_0 0)) fullShare (iblk m c 0 t0_0) := by
    rw [iblk_0]; exact Entails.of_eq (owns_whole (c : Thread nD τ) cc0_stg0_0 fullShare (Xd m c)).symm
  have hpost1 : (wP c (Wd m c) : sProp 𝕄) ⊢ owns (c : Thread nD τ) ((cfg0.win 1).stage (cfg0.slots t0_0 1)) fullShare (iblk m c 1 t0_0) := by
    rw [iblk_1]; exact Entails.of_eq (owns_whole (c : Thread nD τ) cc0_stg1_0 fullShare (Wd m c)).symm
  have hpost2 : (oP c (oEnd m c) : sProp 𝕄) ⊢ owns (c : Thread nD τ) ((cfg0.win 2).stage (cfg0.slots t0_0 2)) fullShare (oEnd m c) :=
    Entails.of_eq (owns_whole (c : Thread nD τ) cc0_stg2_0 fullShare (oEnd m c)).symm
  refine (show iprop(phiA m c ∗ _) ⊢ wp frame (wpE defs₀ 𝒱₀ (c : Thread nD τ) none) Set.univ (bodyAt0 (F := F) t0_0) fun _ =>
    iprop(phiB m c ∗ (dat m c).owesAt () t0_0.succ ∗ owns (c : Thread nD τ) ((cfg0.win 0).stage (cfg0.slots t0_0 0)) fullShare (iblk m c 0 t0_0)
      ∗ owns (c : Thread nD τ) ((cfg0.win 1).stage (cfg0.slots t0_0 1)) fullShare (iblk m c 1 t0_0)
      ∗ owns (c : Thread nD τ) ((cfg0.win 2).stage (cfg0.slots t0_0 2)) fullShare (oEnd m c)) from ?_)
  unfold phiA phiB held1 scratch
  iintro ⟨⟨⟨⟨%κ, #HR, Hk, Hb, Hp0, Hp1, Hp2, Hp3, Ht⟩, Hc, Hd, Hl⟩, ⟨Hkk, Hvv, Hkv⟩, ⟨⟨%fq, Hq⟩, ⟨%fb, Hbb⟩, ⟨%fl, Hll⟩⟩, Hreg⟩, HO, Hx, Hw, Ho⟩
  ihave HO' := (TalkSites.owesAt_elim (dat m c) () t0_0.castSucc (O₀ c) (owed_first m c)) $$ HO
  icases HO' with ⟨%W, HO⟩
  ihave Hx' := hpre $$ Hx
  ihave Hw' := hpre1 $$ Hw
  ihave Ho' := hpre2 $$ Ho
  icases Ho' with ⟨%fo, Ho⟩
  ihave Hbb' := (b_cut c fb).1 $$ Hbb
  icases Hbb' with ⟨Hs0, Hs1⟩
  iapply (wp_enter c _)
  iapply (wp_rest (Kd m) (Vd m) κ c (Xd m c) (Wd m c) (kv0 m c) fb fb fo fq fl _) $$ HR Hl Hk Hkv Hkk Hvv Hx' Hw' Ho Hll Hq Hs0 Hs1 Hd Ht Hc Hb Hp0 Hp1 Hp2 Hp3 [HO]
  · unfold Ow; iexists W; iexact HO
  unfold arrEnd
  iintro Hsp ⟨Hkv, Hkk, Hvv, Hx, Hw, Ho, Hll, Hq, Hs0, Hs1⟩
  imod (close_all (Kd m) (Vd m) κ c) $$ [Hsp] with ⟨Hb, Hos, HO⟩
  · isplitr; · iexact HR
    iexact Hsp
  unfold Ow
  icases HO with ⟨%W', HO⟩
  imodintro
  isplitl [Hb Hos Hkk Hvv Hkv Hll Hq Hs0 Hs1 Hreg]
  · isplitl [Hb Hos]; · isplitl [Hb] <;> iassumption
    isplitl [Hkk Hvv Hkv]
    · isplitl [Hkk]; · iexact Hkk
      isplitl [Hvv]; · iexact Hvv
      iexact Hkv
    isplitl [Hll Hq Hs0 Hs1]
    · isplitl [Hq]; · iexact Hq
      isplitl [Hs0 Hs1]
      · iapply (b_glue c); isplitl [Hs0] <;> iassumption
      iexact Hll
    iexact Hreg
  isplitl [HO]; · iapply (TalkSites.owesAt_intro (dat m c) () t0_0.succ 0 (owed_succ m c) rfl W'); iexact HO
  isplitl [Hx]; · iapply hpost; iexact Hx
  isplitl [Hw]; · iapply hpost1; iexact Hw
  iapply hpost2; iexact Ho

end Cert.KernelIdeal.Struct

end
-- ==== Proof.Launch.lean ====
/- The whole program on four devices: host lines, the pass, host lines; what the launch deals out and what every
   run leaves. -/
module

public import proofs.«01_k».proof.Proof.Region

@[expose] public section

noncomputable section

namespace Cert.KernelIdeal.Struct

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ### The three segments -/

abbrev adm (p : Fin 1) : (pcfgs (F := F) p).Adm := (cfgs p).toPCfg_adm

/-- One family over the program's one pass. -/
def pdats : (p : Fin 1) → (c : Dev nD) → Dat τ (Elt F) Unit ℕ UU ℕ (Pipeline.pin (pcfgs (F := F)) adm p) c :=
  fun | 0 => dat m

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

/-- Every buffer the host program names. -/
abbrev bufs : Finset (DevRef τ sig) := Pipeline.ucRefs τ sig
/-- Those the pass names itself, without the pipeline. -/
def direct : Finset (DevRef τ sig) := {Proc.devRef .tc main_v10, Proc.devRef .tc main_v16, Proc.devRef .tc main_v17_1}
/-- Those the pipeline does not carry. -/
def aside : Finset (DevRef τ sig) := bufs \ Pipeline.arrRefs (τ := τ) spec0
theorem direct_sub : direct ⊆ aside := by decide +kernel
theorem arr_sub : Pipeline.arrRefs (τ := τ) spec0 ⊆ bufs := by decide +kernel

/-- A device's buffers once the pass is over. -/
def V1 (c : Dev nD) : Valuation τ sig (Elt F) :=
  Function.update (Function.update (V0 m c) (Proc.devRef .tc main_v17_0) (oEnd m c)) (Proc.devRef .tc main_v17_1) (kvFin m c)
/-- And at the end. -/
def V2 (c : Dev nD) : Valuation τ sig (Elt F) := StableHlo.after hostOps1 (V1 m c)

theorem V1_kv (c : Dev nD) : V1 m c (Proc.devRef .tc main_v17_1) = kvFin m c := Function.update_self _ _ _
theorem V1_o (c : Dev nD) : V1 m c (Proc.devRef .tc main_v17_0) = oEnd m c :=
  (Function.update_of_ne (by decide) _ _).trans (Function.update_self _ _ _)
theorem V1_ne (c : Dev nD) (b : DevRef τ sig) (h0 : b ≠ Proc.devRef .tc main_v17_0) (h1 : b ≠ Proc.devRef .tc main_v17_1) : V1 m c b = V0 m c b :=
  (Function.update_of_ne h1 _ _).trans (Function.update_of_ne h0 _ _)

theorem held_direct (c : Dev nD) (W : Valuation τ sig (Elt F)) : (StableHlo.held (c : Thread nD τ) direct W : sProp 𝕄)
    = iprop(((M0.kk.view.loc (c : Thread nD τ)) ↦[M0.kk.view.set]{fullShare} (W (Proc.devRef .tc main_v10) : Vec F S2x2x512x1024 .f32))
      ∗ ((M0.vv.view.loc (c : Thread nD τ)) ↦[M0.vv.view.set]{fullShare} (W (Proc.devRef .tc main_v16) : Vec F S2x2x512x1024 .f32))
      ∗ kvP c Finset.univ fullShare (W (Proc.devRef .tc main_v17_1))) := by
  unfold StableHlo.held
  rw [bigSep_eq_bigSepL_of_eq [Proc.devRef .tc main_v10, Proc.devRef .tc main_v16, Proc.devRef .tc main_v17_1] (by decide) (by decide)]
  rw [show (M0.kk.view.set : Finset S2x2x512x1024.Idx) = Finset.univ from View.set_whole main_v10,
    show (M0.vv.view.set : Finset S2x2x512x1024.Idx) = Finset.univ from View.set_whole main_v16]
  rfl

/-- What rides beside the host lines before the pass, and after it. -/
def ride0 (c : Dev nD) : sProp 𝕄 := iprop(held0 (Kd m) (Vd m) c ∗ (∃ r, prngReg c r) ∗ ∃ W, owes (c : Thread nD τ) (O₀ c) W)
def ride1 (c : Dev nD) : sProp 𝕄 := iprop(semVal (barC c) 0 ∗ (∃ r, prngReg c r) ∗ ∃ W, owes (c : Thread nD τ) (0 : CellTallies nD τ sig Unit) W)

def seg0 : ℍ := Pipeline.HostSeg.ofOps _ _ _ _ _ bufs hostOps0
  (fun op hop => Pipeline.sub_ucRefs op ((List.forall_iff_forall_mem.mp hostOps0_sub) op hop))
  (fun op hop => (List.forall_iff_forall_mem.mp hostOps0_fresh) op hop) (fun c b => m (c, b)) (ride0 m)
def seg1 : ℍ := Pipeline.HostSeg.ofOps _ _ _ _ _ bufs hostOps1
  (fun op hop => Pipeline.sub_ucRefs op ((List.forall_iff_forall_mem.mp hostOps1_sub) op hop))
  (fun op hop => (List.forall_iff_forall_mem.mp hostOps1_fresh) op hop) (V1 m) ride1

theorem hin (c : Dev nD) : iprop(Pipeline.scopedRest (Pipeline.pin (pcfgs (F := F)) adm 0).spec c ∗ (∃ r, prngReg c r)
      ∗ StableHlo.held (c.tc : Thread nD τ) direct (V0 m c) ∗ held1 (Kd m) (Vd m) c)
    ⊢ (pdats m 0 c).Φ 0 := by
  rw [show (pdats m 0 c).Φ 0 = phiA m c from rfl, held_direct]
  unfold phiA scratch
  iintro ⟨Hs, Hp, Hd, Hg⟩
  isplitl [Hg]; · iexact Hg
  isplitl [Hd]; · iexact Hd
  isplitl [Hs]
  · iapply (Entails.of_eq (scopedRest0_eq (Ix := Unit) (Val := Elt F) (Name := ℕ) (U := UU) (Lvl := ℕ) c)) $$ Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) direct (V1 m c) ∗ Pipeline.ownSems0 osem c ∗ semVal (barC c) 0) := by
  rw [show (pdats m 0 c).Φ (Fin.last _) = phiB m c from by
      show (if (Fin.last cfg0.N).val = 0 then phiA m c else phiB m c) = phiB m c
      rw [Fin.val_last, if_neg (by rw [show cfg0.N = 1 from N_0]; decide)],
    held_direct, V1_kv, V1_ne m c (Proc.devRef .tc main_v10) (by decide) (by decide), V1_ne m c (Proc.devRef .tc main_v16) (by decide) (by decide)]
  unfold phiB scratch
  iintro ⟨⟨Hb, Ho⟩, Hd, Hs, Hp⟩
  isplitl [Hs]
  · iapply (Entails.of_eq (scopedRest0_eq (Ix := Unit) (Val := Elt F) (Name := ℕ) (U := UU) (Lvl := ℕ) c).symm) $$ Hs
  isplitl [Hp]; · iexact Hp
  isplitl [Hd]; · iexact Hd
  isplitl [Ho]; · iexact Ho
  iexact Hb

theorem stage_low (c : Dev nD) : ∀ (w : Fin cfg0.W) (s : Fin (cfg0.win w).nbuf), lv ((c : Thread nD τ), SemLoc.dma ((cfg0.win w).sem s)) () ≤ 0 :=
  (by decide +kernel : ∀ (w : Fin cfg0.W) (s : Fin (cfg0.win w).nbuf), lvs (SemLoc.dma ((cfg0.win w).sem s)) ≤ 0)

theorem pay_high : ∀ k, k < 10 → 0 < lvs (paySem k) := by decide +kernel

theorem debt_high (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · obtain ⟨k, hk, rfl⟩ := own_pos c 10 g i h
    exact ⟨by unfold payCell; rw [L_tc]; exact Finset.mem_singleton_self _, pay_high k hk⟩
  · exact absurd h (Nat.lt_irrefl 0)

set_option backward.isDefEq.respectTransparency.types false in
def reg : ℝ 0 :=
  Pipeline.RegionSeg.ofTalk (pcfgs (F := F)) adm (pdats m) () defs₀ 𝒱₀ L lv 0 osem osem_facts
    direct aside direct_sub launch0.toP rfl (fun c => (body_ok m c).loose)
    (fun _ => 0) O₀ (fun c => (owed_zero m c).trans (zero_add _).symm) (owed_last m) (fun _ => rfl) (fun _ w => by fin_cases w <;> rfl)
    (V0 m) (V1 m) (fun c b hb => V1_ne m c b (fun e => (Finset.mem_sdiff.mp (Finset.mem_sdiff.mp hb).1).2 (e ▸ by decide +kernel))
      (fun e => (Finset.mem_sdiff.mp hb).2 (e ▸ by decide +kernel)))
    (fun c => held0 (Kd m) (Vd m) c) (fun c => semVal (barC c) 0) (fun c => held1 (Kd m) (Vd m) c) (fun c => semVal (barC c) 0)
    (fun c => open_all (Kd m) (Vd m) c) (hin m) (hout m)
    (fun c => by iintro H; imodintro; iexact H)
    (fun _ => 0)
    ⟨fun c w s => by rw [L_tc]; exact Finset.mem_singleton_self _, fun c w s => stage_low c w s, fun c t g i h => debt_high m c t g i h⟩
    (fun _ => iprop(emp))
    (fun c w => by fin_cases w <;> rfl)
    (fun c w => by
      fin_cases w
      · exact ((dat m c).arrAt_in 0 rfl _).trans (V1_ne m c (Proc.devRef .tc main_v4) (by decide) (by decide)).symm
      · exact ((dat m c).arrAt_in 1 rfl _).trans (V1_ne m c (Proc.devRef .tc main_arg1) (by decide) (by decide)).symm
      · exact (arr_o m c).trans (V1_o m c).symm)

/-! ### In and out of the pass -/

theorem held_cut (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) aside W) :=
  StableHlo.held_sub_split (c : Thread nD τ) arr_sub W

theorem reg_pre (c : Dev nD) : iprop(StableHlo.held (c : Thread nD τ) bufs (V0 m c) ∗ ride0 m c) ⊢ (reg m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) aside (V0 m c) ∗ emp) ∗ held0 (Kd m) (Vd m) c ∗ ∃ Wd, owes (c : Thread nD τ) (0 + O₀ c) Wd)
  rw [held_cut, zero_add]
  unfold ride0
  iintro ⟨⟨Ha, Hs⟩, Hg, Hp, HO⟩
  isplitl [Ha]; · iexact Ha
  isplitl [Hp]; · iexact Hp
  isplitl [Hs]
  · isplitl [Hs]; · iexact Hs
    iempintro
  isplitl [Hg]; · iexact Hg
  iexact HO

theorem reg_post (c : Dev nD) : (reg m).post c ⊢ iprop(StableHlo.held (c : Thread nD τ) bufs (V1 m c) ∗ ride1 c) := by
  show iprop(StableHlo.held (c.tc : Thread nD τ) (Pipeline.arrRefs (τ := τ) (pcfgs (F := F) 0).spec) (V1 m c) ∗ (∃ r, prngReg c r)
    ∗ (StableHlo.held (c.tc : Thread nD τ) aside (V1 m c) ∗ emp) ∗ semVal (barC c) 0 ∗ ∃ Wd, owes (c : Thread nD τ) (0 : CellTallies nD τ sig Unit) Wd) ⊢ _
  rw [held_cut]
  unfold ride1
  iintro ⟨Ha, Hp, ⟨Hs, -⟩, Hb, HO⟩
  isplitl [Ha Hs]; · isplitl [Ha] <;> iassumption
  isplitl [Hb]; · iexact Hb
  isplitl [Hp]; · iexact Hp
  iexact HO

/-! ### What the launch deals -/

theorem stage_inj : Function.Injective (Pipeline.cellOf (nD := nD) (τ := τ) (Pipeline.pin (pcfgs (F := F)) adm)) :=
  launch0.toP.cellOf_inj adm

/-- The launch's own element: the pipeline's part, and every cell's schedule and token. -/
def u₀ : UU :=
  (initOf (Pipeline.cells (Pipeline.pin (pcfgs (F := F)) adm) stage_inj) (Pipeline.launchToks (Pipeline.pin (pcfgs (F := F)) adm) stage_inj),
    (launchOf barCells scCells talkToks, (1 : Counters)))

/-- All the cells' part, handed to the first device until it is dealt out. -/
def parked (c : Dev nD) : sProp 𝕄 := if c.val = 0 then BI.own (ER (launchOf barCells scCells talkToks)) else iprop(emp)

theorem parked_in : BI.own (ER (launchOf barCells scCells talkToks)) ⊢ (bigSep Finset.univ (parked (F := F)) : sProp 𝕄) := by
  rw [four_eq]; unfold four parked
  rw [if_pos (by decide), if_neg (by decide), if_neg (by decide), if_neg (by decide)]
  iintro H
  isplitl [H]; · iexact H
  isplitr; · iempintro
  isplitr; · iempintro
  iempintro
theorem parked_out : (bigSep Finset.univ (parked (F := F)) : sProp 𝕄) ⊢ BI.own (ER (launchOf barCells scCells talkToks)) := by
  rw [four_eq]; unfold four parked
  rw [if_pos (by decide), if_neg (by decide), if_neg (by decide), if_neg (by decide)]
  iintro ⟨H, -⟩
  iexact H

theorem bar_only (c : Dev nD) : (unscopedSems0 c : sProp 𝕄) = semVal (barC c) 0 := by
  unfold unscopedSems0
  rw [show (Finset.univ.filter fun sm : SemLoc sig => ¬ sm.isScoped .tc) = {SemLoc.reg bar} from by decide, BI.bigSep_singleton]

abbrev T₀ (c : Dev nD) : sProp 𝕄 := iprop(StableHlo.held (c : Thread nD τ) bufs (fun b => m (c, b)) ∗ ride0 m c)
abbrev Tₙ (c : Dev nD) : sProp 𝕄 := iprop(StableHlo.held (c : Thread nD τ) bufs (V2 m c) ∗ semVal (barC c) 0)

/-- A device's share of the launch besides its cells. -/
def lot (c : Dev nD) : sProp 𝕄 := iprop(StableHlo.held (c : Thread nD τ) bufs (fun b => m (c, b)) ∗ creds c
  ∗ owes (c : Thread nD τ) (O₀ c) ∅ ∗ ∃ r, prngReg c r)

theorem lot_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(lot m c ∗ semVal (barC c) 0 ∗ parked c) : sProp 𝕄) := by
  rw [show unscopedBufs c (fun b => m ((c : Thread nD τ).loc b)) = StableHlo.held (c : Thread nD τ) bufs (fun b => m (c, b)) from
    Pipeline.unscopedBufs_held c (fun b => m (c, b)), bar_only]
  unfold lot
  iintro ⟨Hh, Hb, HO, Hc, Hp, HG⟩
  isplitr [Hb HG]
  · isplitl [Hh]; · iexact Hh
    isplitl [Hc]; · iapply (creds_of c) $$ Hc
    isplitl [HO]; · iexact HO
    iexists (ρ c); iexact Hp
  isplitl [Hb] <;> iassumption

theorem start_of (κ : GSem nD τ sig → ℕ) (c : Dev nD) : iprop(records (Kd m) (Vd m) κ ∗ (linear c ∗ lot m c)) ⊢ T₀ m c := by
  unfold lot T₀ ride0 held0
  iintro ⟨#HR, Hl, Hh, Hc, HO, Hp⟩
  isplitl [Hh]; · iexact Hh
  isplitl [Hl Hc]
  · isplitl [Hl]
    · iexists κ; isplitr; · iexact HR
      iexact Hl
    iexact Hc
  isplitl [Hp]; · iexact Hp
  iexists ∅; iexact HO

theorem init : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c)) ∗ levAts L lv)
    ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun ai : Fin 4 × Fin 4 => (openTok ER ((c : Thread nD τ), osemT ai) : sProp 𝕄)) :=
    Entails.of_eq (by unfold scCells; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(lot m c ∗ semVal (barC c) 0 ∗ parked c) : sProp 𝕄) from bigSep_mono fun c _ => lot_of m ρ c) $$ H
  ihave H2 := (deal_split _ _) $$ H'; icases H2 with ⟨HB, H3⟩
  ihave H4 := (deal_split _ _) $$ H3; icases H4 with ⟨Hv, HG⟩
  ihave Hu := (parked_out (F := F)) $$ HG
  imod (Rounds.fund_launch ER (sched (Kd m) (Vd m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (Kd m) (Vd m) κ) (Φ := fun c => iprop(linear c ∗ lot m c)) fun c _ => start_of m κ c)
  isplitr
  · unfold records recs
    isplitr; · iexact Hinv
    iexact Hr
  iapply (deal_join _ _)
  isplitr [HB]
  · unfold linear
    iapply (deal_join _ _); isplitl [Hat]; · iapply hat $$ Hat
    iapply (deal_join _ _); isplitl [Hopen]; · iapply hopen $$ Hopen
    iapply (toks_dealt (F := F))
    iapply (Entails.of_eq (toks_mine (F := F))) $$ Htok
  · iexact HB

/-! ### The run -/

/-- A buffer neither the pass nor the host lines after it write. -/
theorem V2_ne (c : Dev nD) (b : Ref sig .tc) (h0 : b ≠ main_v17_0) (h1 : b ≠ main_v17_1)
    (h : (hostOps1 : List (HloOp τ sig (Elt F))).Forall fun op => Proc.devRef .tc b ∉ op.writes) :
    V2 m c (Proc.devRef .tc b) = V0 m c (Proc.devRef .tc b) :=
  (StableHlo.after_of_forall_not_mem (b := Proc.devRef .tc b) _ _ (List.forall_iff_forall_mem.mp h)).trans
    (V1_ne m c _ (StableHlo.devRef_ne_of_ne h0) (StableHlo.devRef_ne_of_ne h1))

theorem V2_arg (c : Dev nD) (b : Ref sig .tc) (hb : b ∈ [main_arg0, main_arg1, main_arg2, main_arg3, main_arg4]) :
    V2 m c (Proc.devRef .tc b) = m ((c : Thread nD τ).loc b) := by
  simp only [List.mem_cons, List.not_mem_nil, or_false] at hb
  have hw (b : Ref sig .tc) (h : b ∈ [main_arg0, main_arg1, main_arg2, main_arg3, main_arg4]) :
      (hostOps1 : List (HloOp τ sig (Elt F))).Forall fun op => Proc.devRef .tc b ∉ op.writes := by
    simp only [hostOps1, List.Forall, StableHlo.unary_writes, StableHlo.binary_writes, StableHlo.reshape_writes, Finset.mem_singleton]
    repeat' apply And.intro
    all_goals exact StableHlo.devRef_ne_of_ne (fun e => absurd (e ▸ h) (by decide))
  rcases hb with rfl | rfl | rfl | rfl | rfl
  · exact (V2_ne m c _ (by decide) (by decide) (hw _ (by decide))).trans (V_main_arg0 m c)
  · exact (V2_ne m c _ (by decide) (by decide) (hw _ (by decide))).trans (V_main_arg1 m c)
  · exact (V2_ne m c _ (by decide) (by decide) (hw _ (by decide))).trans (V_main_arg2 m c)
  · exact (V2_ne m c _ (by decide) (by decide) (hw _ (by decide))).trans (V_main_arg3 m c)
  · exact (V2_ne m c _ (by decide) (by decide) (hw _ (by decide))).trans (V_main_arg4 m c)

/-- The buffers a claim reads. -/
def seen : Finset (DevRef τ sig) := {Proc.devRef .tc main_arg0, Proc.devRef .tc main_arg1, Proc.devRef .tc main_arg2, Proc.devRef .tc main_arg3,
  Proc.devRef .tc main_arg4, Proc.devRef .tc main_v22}
theorem seen_sub : seen ⊆ bufs := by decide +kernel

abbrev ptP (c : Dev nD) (b : Ref sig .tc) (W : Valuation τ sig (Elt F)) : sProp 𝕄 := ((c : Thread nD τ).loc b) ↦{fullShare} W (Proc.devRef .tc b)

theorem held_seen (c : Dev nD) (W : Valuation τ sig (Elt F)) : (StableHlo.held (c : Thread nD τ) bufs W : sProp 𝕄)
    ⊢ iprop(ptP c main_arg0 W ∗ ptP c main_arg1 W ∗ ptP c main_arg2 W ∗ ptP c main_arg3 W ∗ ptP c main_arg4 W ∗ ptP c main_v22 W) := by
  rw [StableHlo.held_sub_split (c : Thread nD τ) seen_sub W]
  iintro ⟨H, -⟩
  iapply (Entails.of_eq (show (StableHlo.held (c : Thread nD τ) seen W : sProp 𝕄)
    = iprop(ptP c main_arg0 W ∗ ptP c main_arg1 W ∗ ptP c main_arg2 W ∗ ptP c main_arg3 W ∗ ptP c main_arg4 W ∗ ptP c main_v22 W) from by
      unfold StableHlo.held
      rw [bigSep_eq_bigSepL_of_eq [Proc.devRef .tc main_arg0, Proc.devRef .tc main_arg1, Proc.devRef .tc main_arg2, Proc.devRef .tc main_arg3,
        Proc.devRef .tc main_arg4, Proc.devRef .tc main_v22] (by decide) (by decide)]
      rfl)) $$ H

theorem only_bar : ∀ sm : SemLoc sig, sm.isScoped .tc = false → sm = .reg bar := by decide

abbrev segs : List (Pipeline.Seg (pcfgs (F := F)) adm (pdats m) () defs₀ 𝒱₀ L lv) := [.host (seg0 m), .region (reg m), .host (seg1 m)]

set_option backward.isDefEq.respectTransparency.types false in
/-- Every run from any memory with the counters at zero ends, its arguments as they were, its result the host lines'
    over the pass's output, and every counter back at zero. -/
theorem run_main : θ_run defs (onTc (τ := τ) (main (F := F))) ⟨m, fun _ => 0, ρ⟩
    (fun r => (∀ c : Dev nD, (∀ b ∈ [main_arg0, main_arg1, main_arg2, main_arg3, main_arg4], r.2.mem ((c : Thread nD τ).loc b) = m ((c : Thread nD τ).loc b))
        ∧ r.2.mem ((c : Thread nD τ).loc main_v22) = V2 m c (Proc.devRef .tc main_v22)) ∧ r.2.sem = fun _ => 0) :=
  Pipeline.θ_run_regions_kit_sems (pcfgs (F := F)) adm (pdats m) () stage_inj EP defs₀ 𝒱₀ L lv m ρ main (segs m)
    (fun c Q => by rw [main_segs adm (pdats m) () 𝒱₀ L lv (seg0 m) (seg1 m) (reg m) rfl rfl c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      iapply parked_in
      iexact HX)
    (T₀ := T₀ m) (Tₙ := Tₙ m)
    (hch := by
      refine ⟨fun c => .rfl, fun c => reg_pre m c, fun c => reg_post m c, fun c => ?_⟩
      show iprop(StableHlo.held (c : Thread nD τ) bufs (V2 m c) ∗ ride1 c)
        ⊢ iprop(Tₙ m c ∗ ∃ W, owes (c : Thread nD τ) (0 : CellTallies nD τ sig Unit) W)
      unfold ride1
      iintro ⟨Hh, Hb, -, HO⟩
      isplitr [HO]
      · isplitl [Hh] <;> iassumption
      · iexact HO)
    (hinit := init m ρ)
    (QY := fun c s => (s.mem ((c : Thread nD τ).loc main_arg0) = V2 m c (Proc.devRef .tc main_arg0)
        ∧ s.mem ((c : Thread nD τ).loc main_arg1) = V2 m c (Proc.devRef .tc main_arg1)
        ∧ s.mem ((c : Thread nD τ).loc main_arg2) = V2 m c (Proc.devRef .tc main_arg2)
        ∧ s.mem ((c : Thread nD τ).loc main_arg3) = V2 m c (Proc.devRef .tc main_arg3)
        ∧ s.mem ((c : Thread nD τ).loc main_arg4) = V2 m c (Proc.devRef .tc main_arg4)
        ∧ s.mem ((c : Thread nD τ).loc main_v22) = V2 m c (Proc.devRef .tc main_v22))
      ∧ s.sem (barC c) = 0)
    (hfin := fun c s' => by
      dsimp only [Tₙ]
      iintro ⟨⟨Hh, Hb⟩, HSI⟩
      ihave H := (held_seen c (V2 m c)) $$ Hh
      icases H with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        refine ⟨fun b hb => ?_, h5⟩
        rw [← V2_arg m c b hb]
        simp only [List.mem_cons, List.not_mem_nil, or_false] at hb
        rcases hb with rfl | rfl | rfl | rfl | rfl <;> assumption,
      sem_eq_zero hs fun c sm hsm => by
        obtain rfl := only_bar sm hsm
        exact (h c).2⟩)

end Cert.KernelIdeal.Struct

end
-- ==== Proof.Frames.lean ====
/- The runs of the three programs as the claims state them: they end, their arguments are kept, and every counter is
   back at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel over extended reals. -/
theorem frame_pi : Cert.quiescent_KernelIdeal (hKernelIdeal := Cert.KernelIdeal.Gen.facts) := fun m ρ _ =>
  (θ_run Cert.KernelIdeal.defs _ _).mono (fun _ h => ⟨fun c => ⟨(h.1 c).1 _ (by decide), (h.1 c).1 _ (by decide), (h.1 c).1 _ (by decide),
    (h.1 c).1 _ (by decide), (h.1 c).1 _ (by decide)⟩, h.2⟩) (Cert.KernelIdeal.Struct.run_main (F := Ideal) m ρ)

/-- The reference over extended reals. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kept arguments and the counters, of the kernel at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c).1 _ (by decide), (h.1 c).1 _ (by decide), (h.1 c).1 _ (by decide),
    (h.1 c).1 _ (by decide), (h.1 c).1 _ (by decide)⟩, h.2⟩) (Cert.KernelIdeal.Struct.run_main (F := F) m ρ)

/-- The two prints have one call table: the tables differ only in the order of their cases. -/
theorem calls_eq : Cert.Kernel.defs₀ (F := Bits) = Cert.KernelIdeal.defs₀ (F := Bits) := by
  funext p l a
  cases p with
  | tc =>
    match l, a with
    | ⟨0, _⟩, (_, _) => rfl
    | ⟨n + 1, h⟩, _ => exact absurd h (Nat.not_lt.2 (Nat.le_add_left _ _))
  | scScalar _ => rfl
  | scVector _ _ => rfl

theorem defs_eq : Cert.Kernel.defs (F := Bits) = Cert.KernelIdeal.defs (F := Bits) :=
  congrArg (Pipeline.defs (Cert.KernelIdeal.pcfgs (F := Bits))) calls_eq

theorem main_eq : Cert.Kernel.main (F := Bits) = Cert.KernelIdeal.main (F := Bits) := rfl

/-- The kernel over words: the two prints are one program, read at two instances. -/
theorem frame_p : Cert.quiescent_Kernel (hKernel := Cert.Kernel.Gen.facts) := by
  intro m ρ _
  rw [defs_eq, main_eq]
  exact frame_any (F := Bits) m ρ

end Cert.Proof

end
-- ==== Proof.Ref.lean ====
/- The reference, array by array: the mask, the masked scores, the weights, the result. -/
module

public import proofs.«01_k».proof.Proof.Frames
public import Idealize.ShloMosaic.Lib.Pointwise
public import Idealize.ShloMosaic.Lib.Routing.Words
public import Idealize.ShloMosaic.Lib.IdealHost

@[expose] public section

noncomputable section

namespace Cert.Proof.Ref

open Idealize.ShloMosaic Idealize.ShloMosaic.TcCoe Cert.ReferenceIdeal Cert.ReferenceIdeal.Gen

/-- The block number of each row: its number divided by 64. -/
def blockNo : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- The divisor four, as the program guards it against zero. -/
def four : IVec S_ 32 := select (cmpi .eq (id (constantI S_ 32 4#32)) (constantI S_ 32 0#32)) (constantI S_ 32 1#32) (id (constantI S_ 32 4#32))

/-- The remainder by four, taken with the sign of the divisor. -/
def mod4 (T : Shape) (hb : S_.BroadcastsInDim T ![]) (x : IVec T 32) : IVec T 32 :=
  select (andi (cmpi .ne (cmpi .slt (Host.remsi x (broadcastInDim T ![] hb four)) (broadcastInDim T ![] hb (constantI S_ 32 0#32)))
        (broadcastInDim T ![] hb (cmpi .slt four (constantI S_ 32 0#32))))
      (cmpi .ne (Host.remsi x (broadcastInDim T ![] hb four)) (broadcastInDim T ![] hb (constantI S_ 32 0#32))))
    (addi (Host.remsi x (broadcastInDim T ![] hb four)) (broadcastInDim T ![] hb four))
    (Host.remsi x (broadcastInDim T ![] hb four))

/-- Which keys a query meets. -/
def mask : IVec S8192x8192 1 :=
  ori (cmpi .eq (broadcastInDim S8192x8192 ![0, 1] bcast_S8192x1_S8192x8192_0_1 (broadcastInDim S8192x1 ![0] bcast_S8192_S8192x1_0 blockNo))
      (broadcastInDim S8192x8192 ![0, 1] bcast_S1x8192_S8192x8192_0_1 (broadcastInDim S1x8192 ![1] bcast_S8192_S1x8192_1 blockNo)))
    (cmpi .eq (broadcastInDim S8192x8192 ![0, 1] bcast_S1x8192_S8192x8192_0_1 (mod4 S1x8192 bcast_S_S1x8192 (broadcastInDim S1x8192 ![1] bcast_S8192_S1x8192_1 blockNo)))
      (broadcastInDim S8192x8192 ![0, 1] bcast_S8192x1_S8192x8192_0_1 (mod4 S8192x1 bcast_S_S8192x1 (broadcastInDim S8192x1 ![0] bcast_S8192_S8192x1_0 blockNo))))

/-- Whether a query meets any key. -/
def some : IVec S8192 1 := Host.reduce IntOp.ori mask (constantI S_ 1 0#1) reducesTo_S8192x8192_S8192_d1 h_S_

section
variable (x : FVec Ideal S1x8192x1024 .f32) (wq : FVec Ideal S1024x1024 .f32) (k v : FVec Ideal S1x8192x8x128 .f32) (wo : FVec Ideal S1024x1024 .f32)

/-- The queries. -/
def qs : FVec Ideal S1x8192x8x128 .f32 :=
  shapeCast S1x8192x8x128 (Host.dotGeneral dot_S1x8192x1024_S1024x1024_S1x8192x1024_2_0_01_1_n_n none x wq : FVec Ideal S1x8192x1024 .f32) shapeCasts_S1x8192x1024_S1x8192x8x128

/-- The scores before the mask. -/
def raw : FVec Ideal S1x8x8192x8192 .f32 :=
  mulf (Host.dotGeneral dot_S1x8192x8x128_S1x8192x8x128_S1x8x8192x8192_3_3_1_1_02_02 none (qs x wq) k)
    (broadcastInDim S1x8x8192x8192 ![] bcast_S_S1x8x8192x8192 (constant S_ .f32 0x3DB504F3#32))

/-- The masked scores. -/
def sc : FVec Ideal S1x8x8192x8192 .f32 :=
  select (broadcastInDim S1x8x8192x8192 ![0, 1, 2, 3] bcast_S1x1x8192x8192_S1x8x8192x8192_0_1_2_3 (broadcastInDim S1x1x8192x8192 ![2, 3] bcast_S8192x8192_S1x1x8192x8192_2_3 mask))
    (raw x wq k) (broadcastInDim S1x8x8192x8192 ![] bcast_S_S1x8x8192x8192 (id (constant S_ .f32 0xFF800000#32)))

/-- Each query's largest score. -/
def top : FVec Ideal S1x8x8192 .f32 := Host.reduce FloatOps.maximumf (sc x wq k) (constant S_ .f32 0xFF800000#32) reducesTo_S1x8x8192x8192_S1x8x8192_d3 h_S_

/-- The exponentials. -/
def ex : FVec Ideal S1x8x8192x8192 .f32 :=
  Host.exp (subf (sc x wq k) (broadcastInDim S1x8x8192x8192 ![0, 1, 2, 3] bcast_S1x8x8192x1_S1x8x8192x8192_0_1_2_3 (broadcastInDim S1x8x8192x1 ![0, 1, 2] bcast_S1x8x8192_S1x8x8192x1_0_1_2 (top x wq k))))

/-- Their sum along the keys, or one. -/
def den : FVec Ideal S1x8x8192x1 .f32 :=
  select (broadcastInDim S1x8x8192x1 ![0, 1, 2, 3] bcast_S1x1x8192x1_S1x8x8192x1_0_1_2_3 (broadcastInDim S1x1x8192x1 ![2] bcast_S8192_S1x1x8192x1_2 some))
    (broadcastInDim S1x8x8192x1 ![0, 1, 2] bcast_S1x8x8192_S1x8x8192x1_0_1_2 (Host.reduceAdd (ex x wq k) (constant S_ .f32 0x00000000#32) reducesTo_S1x8x8192x8192_S1x8x8192_d3 h_S_))
    (broadcastInDim S1x8x8192x1 ![] bcast_S_S1x8x8192x1 (id (constant S_ .f32 0x3F800000#32)))

/-- The weights. -/
def wt : FVec Ideal S1x8x8192x8192 .f32 :=
  select (broadcastInDim S1x8x8192x8192 ![0, 1, 2, 3] bcast_S1x1x8192x1_S1x8x8192x8192_0_1_2_3 (broadcastInDim S1x1x8192x1 ![2] bcast_S8192_S1x1x8192x1_2 some))
    (Host.divf (ex x wq k) (broadcastInDim S1x8x8192x8192 ![0, 1, 2, 3] bcast_S1x8x8192x1_S1x8x8192x8192_0_1_2_3 (den x wq k)))
    (broadcastInDim S1x8x8192x8192 ![] bcast_S_S1x8x8192x8192 (id (constant S_ .f32 0x00000000#32)))

/-- The attention's output, heads side by side. -/
def ctx : FVec Ideal S1x8192x1024 .f32 :=
  shapeCast S1x8192x1024 (transpose S1x8192x8x128 [0, 3, 1, 2] (Host.dotGeneral dot_S1x8192x8x128_S1x8x8192x8192_S1x8x128x8192_1_3_3_2_02_01 none v (wt x wq k) : FVec Ideal S1x8x128x8192 .f32)
    transposes_S1x8x128x8192_S1x8192x8x128_0_3_1_2) shapeCasts_S1x8192x8x128_S1x8192x1024

/-- The result. -/
def out : FVec Ideal S1x8192x1024 .f32 := Host.dotGeneral dot_S1x8192x1024_S1024x1024_S1x8192x1024_2_0_01_1_n_n none (ctx x wq k v) wo
end

set_option maxRecDepth 100000 in
set_option maxHeartbeats 0 in
/-- The run's term is this result. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Proof.Ref

end
-- ==== Proof.RefRead.lean ====
/- The reference's arrays read at an index. -/
module

public import proofs.«01_k».proof.Proof.Ref
public import Idealize.ShloMosaic.Lib.Routing.OpsOrder
public import Idealize.ShloMosaic.Lib.Routing.BitFacts

@[expose] public section

noncomputable section

namespace Cert.Proof.Ref

open Idealize.ShloMosaic Idealize.ShloMosaic.TcCoe Cert.ReferenceIdeal Cert.ReferenceIdeal.Gen Idealize.ShloMosaic.Routing

set_option maxRecDepth 16384

/-- The quotient rounded down, as one word: at a number below 2³¹ it is the word of the quotient. -/
theorem word_div {a : ℕ} (ha : a < 2 ^ 31) (x : BitVec 32) (hx : x = BitVec.ofNat 32 a) :
    Scalar.select (IntOp.andi (IntOp.cmpi .ne (if x = 0 then 0 else if x.msb then -1 else 1 : BitVec 32) 1#32) (IntOp.cmpi .ne (IntOp.remsi .host x 64#32) 0#32))
      (IntOp.subi (IntOp.divsi .host x 64#32) 1#32) (IntOp.divsi .host x 64#32) = BitVec.ofNat 32 (a / 64) := by
  subst hx
  have hd : IntOp.divsi .host (BitVec.ofNat 32 a) 64#32 = BitVec.ofNat 32 (a / 64) := divsi_word .host ha (by decide) (by decide)
  have hr : IntOp.remsi .host (BitVec.ofNat 32 a) 64#32 = BitVec.ofNat 32 (a % 64) := remsi_word .host ha (by decide) (by decide)
  rw [hd, hr, msb_ofNat32 ha]
  rcases Nat.eq_zero_or_pos a with h | h
  · subst h; rfl
  · rw [if_neg (ofNat32_ne_zero h (by omega))]
    have e : IntOp.cmpi .ne (if false = true then -1 else 1 : BitVec 32) 1#32 = 0#1 := by decide
    rw [e]
    show Scalar.select (0#1 &&& _) _ _ = _
    rw [BitVec.zero_and]
    rfl

theorem blockNo_apply (i : Fin 8192) : blockNo (ix1 i) = BitVec.ofNat 32 (i.val / 64) := by
  refine Eq.trans ?_ (word_div (a := i.val) (by omega) (BitVec.ofNat 32 i.val) rfl)
  pointwise [blockNo]
  rfl

theorem four_apply : four ix0 = 4#32 := rfl

theorem mod4_apply (T : Shape) (hb : S_.BroadcastsInDim T ![]) (x : IVec T 32) (j : T.Idx) {a : ℕ} (ha : a < 2 ^ 31) (hx : x j = BitVec.ofNat 32 a) :
    mod4 T hb x j = BitVec.ofNat 32 (a % 4) := by
  have hr : IntOp.remsi .host (x j) 4#32 = BitVec.ofNat 32 (a % 4) := by rw [hx]; exact remsi_word .host ha (by decide) (by decide)
  have hq : ∀ b : ℕ, b < 4 → IntOp.andi (IntOp.cmpi .ne (IntOp.cmpi .slt (BitVec.ofNat 32 b) 0#32) 0#1) (IntOp.cmpi .ne (BitVec.ofNat 32 b) 0#32) = 0#1 := by decide
  show Scalar.select (IntOp.andi (IntOp.cmpi .ne (IntOp.cmpi .slt (IntOp.remsi .host (x j) 4#32) 0#32) 0#1) (IntOp.cmpi .ne (IntOp.remsi .host (x j) 4#32) 0#32))
    (IntOp.addi (IntOp.remsi .host (x j) 4#32) 4#32) (IntOp.remsi .host (x j) 4#32) = _
  rw [hr, hq _ (Nat.mod_lt _ (by decide))]
  rfl

/-- A query meets the keys of its class. -/
theorem mask_apply (i j : Fin 8192) : mask (ix2 i j) = if i.val / 64 % 4 = j.val / 64 % 4 then 1#1 else 0#1 := by
  have h0 : ∀ i : Fin 8192, mod4 S8192x1 bcast_S_S8192x1 (broadcastInDim S8192x1 ![0] bcast_S8192_S8192x1_0 blockNo) (ix2 i 0) = BitVec.ofNat 32 (i.val / 64 % 4) := fun i =>
    mod4_apply _ _ _ _ (by omega) (by pointwise; exact blockNo_apply i)
  have h1 : ∀ i : Fin 8192, mod4 S1x8192 bcast_S_S1x8192 (broadcastInDim S1x8192 ![1] bcast_S8192_S1x8192_1 blockNo) (ix2 0 i) = BitVec.ofNat 32 (i.val / 64 % 4) := fun i =>
    mod4_apply _ _ _ _ (by omega) (by pointwise; exact blockNo_apply i)
  pointwise [mask]
  rw [h0, h1, blockNo_apply, blockNo_apply]
  have e : ∀ a b : ℕ, a < 2 ^ 32 → b < 2 ^ 32 → IntOp.cmpi .eq (BitVec.ofNat 32 a) (BitVec.ofNat 32 b) = if a = b then 1#1 else 0#1 := fun a b ha hb => by
    have h : BitVec.ofNat 32 a = BitVec.ofNat 32 b ↔ a = b := ⟨fun h => by
      have := congrArg BitVec.toNat h
      rwa [BitVec.toNat_ofNat, BitVec.toNat_ofNat, Nat.mod_eq_of_lt ha, Nat.mod_eq_of_lt hb] at this, fun h => h ▸ rfl⟩
    show BitVec.ofBool (BitVec.ofNat 32 a == BitVec.ofNat 32 b) = _
    by_cases hab : a = b
    · subst hab; simp
    · have hne : ¬ BitVec.ofNat 32 a = BitVec.ofNat 32 b := fun H => hab (h.1 H)
      rw [if_neg hab, beq_eq_false_iff_ne.2 hne]; rfl
  rw [e _ _ (by omega) (by omega), e _ _ (by omega) (by omega)]
  by_cases h : i.val / 64 % 4 = j.val / 64 % 4
  · rw [if_pos h, if_pos h.symm]; split_ifs <;> rfl
  · rw [if_neg h, if_neg (fun H : j.val / 64 % 4 = i.val / 64 % 4 => h H.symm), if_neg (fun H : i.val / 64 = j.val / 64 => h (congrArg (· % 4) H))]; rfl

theorem some_apply (i : Fin 8192) : some (ix1 i) = 1#1 := by
  have h : some (ix1 i) = Finset.fold IntOp.ori (0#1) (fun x => mask (ix2 i x)) Finset.univ := by unfold some; pointwise
  rw [h, fold_ori]
  exact ⟨i, Finset.mem_univ _, by rw [mask_apply, if_pos rfl]⟩

section
variable (x : FVec Ideal S1x8192x1024 .f32) (wq : FVec Ideal S1024x1024 .f32) (k v : FVec Ideal S1x8192x8x128 .f32) (wo : FVec Ideal S1024x1024 .f32)

/-- One score before the mask: the query times the key, scaled. -/
def score (h : Fin 8) (i j : Fin 8192) : EReal :=
  (∑ e : Fin 128, (∑ a : Fin 1024, x (ix3 0 i a) * wq (ix2 a ⟨h.val * 128 + e.val, by omega⟩)) * k (ix4 0 j h e)) * Ideal.ofBits .f32 0x3DB504F3#32
/-- The score after the mask. -/
def masked (h : Fin 8) (i j : Fin 8192) : EReal := if i.val / 64 % 4 = j.val / 64 % 4 then score x wq k h i j else ⊥
/-- The exponential of a score less the largest. -/
def expo (h : Fin 8) (i j : Fin 8192) : EReal := Ideal.exp (masked x wq k h i j - Finset.fold max ⊥ (fun j => masked x wq k h i j) Finset.univ)

theorem qs_apply (i : Fin 8192) (h : Fin 8) (e : Fin 128) :
    qs x wq (ix4 0 i h e) = ∑ a : Fin 1024, x (ix3 0 i a) * wq (ix2 a ⟨h.val * 128 + e.val, by omega⟩) := by
  unfold qs
  pointwise
theorem raw_apply (h : Fin 8) (i j : Fin 8192) : raw x wq k (ix4 0 h i j) = score x wq k h i j := by
  unfold raw score
  pointwise
  simp only [qs_apply]
theorem bottom : Ideal.ofBits .f32 0xFF800000#32 = ⊥ := by simp [Ideal.ofBits, Ideal.ieee]
theorem sc_apply (h : Fin 8) (i j : Fin 8192) : sc x wq k (ix4 0 h i j) = masked x wq k h i j := by
  have e : sc x wq k (ix4 0 h i j) = Scalar.select (mask (ix2 i j)) (raw x wq k (ix4 0 h i j)) (Ideal.ofBits .f32 0xFF800000#32) := by
    unfold sc
    generalize mask = M
    generalize raw x wq k = R
    pointwise [id_eq]
  rw [e, raw_apply, mask_apply, bottom]
  unfold masked
  split_ifs <;> rfl
theorem top_apply (h : Fin 8) (i : Fin 8192) : top x wq k (ix3 0 h i) = Finset.fold max ⊥ (fun j => masked x wq k h i j) Finset.univ := by
  have e : top x wq k (ix3 0 h i) = Finset.fold max (Ideal.ofBits .f32 0xFF800000#32) (fun j => sc x wq k (ix4 0 h i j)) Finset.univ := by
    unfold top
    generalize sc x wq k = R
    pointwise
  rw [e, bottom]
  simp only [sc_apply]
theorem ex_apply (h : Fin 8) (i j : Fin 8192) : ex x wq k (ix4 0 h i j) = expo x wq k h i j := by
  have e : ex x wq k (ix4 0 h i j) = Ideal.exp (sc x wq k (ix4 0 h i j) - top x wq k (ix3 0 h i)) := by
    unfold ex
    generalize sc x wq k = R
    generalize top x wq k = T
    pointwise
  rw [e, sc_apply, top_apply]; rfl
theorem den_apply (h : Fin 8) (i : Fin 8192) : den x wq k (ix4 0 h i 0) = ∑ j : Fin 8192, expo x wq k h i j := by
  have e : den x wq k (ix4 0 h i 0) = Scalar.select (some (ix1 i)) (∑ j : Fin 8192, ex x wq k (ix4 0 h i j)) 1 := by
    unfold den
    generalize ex x wq k = R
    generalize some = M
    pointwise [id_eq]
  rw [e, some_apply]
  simp only [ex_apply]
  rfl
/-- A column spread along the keys, a bit per query spread over the heads and the keys, a constant spread over all. -/
theorem spread (D : FVec Ideal S1x8x8192x1 .f32) (h : Fin 8) (i j : Fin 8192) :
    broadcastInDim S1x8x8192x8192 ![0, 1, 2, 3] bcast_S1x8x8192x1_S1x8x8192x8192_0_1_2_3 D (ix4 0 h i j) = D (ix4 0 h i 0) := by pointwise
theorem spread_bit (M : IVec S8192 1) (h : Fin 8) (i j : Fin 8192) :
    broadcastInDim S1x8x8192x8192 ![0, 1, 2, 3] bcast_S1x1x8192x1_S1x8x8192x8192_0_1_2_3 (broadcastInDim S1x1x8192x1 ![2] bcast_S8192_S1x1x8192x1_2 M) (ix4 0 h i j) = M (ix1 i) := by pointwise
theorem spread_zero (h : Fin 8) (i j : Fin 8192) :
    broadcastInDim S1x8x8192x8192 ![] bcast_S_S1x8x8192x8192 (id (constant S_ .f32 0x00000000#32) : FVec Ideal S_ .f32) (ix4 0 h i j) = 0 := by pointwise [id_eq]
theorem wt_apply (h : Fin 8) (i j : Fin 8192) : wt x wq k (ix4 0 h i j) = Ideal.div (expo x wq k h i j) (∑ j : Fin 8192, expo x wq k h i j) := by
  unfold wt
  rw [ValueIdx.select_apply, spread_bit, spread_zero, ValueIdx.hostDivf_apply, spread, some_apply, ex_apply, den_apply]
  rfl
/-- The reference's result at a row and a column. -/
theorem out_apply (i : Fin 8192) (n : Fin 1024) : out x wq k v wo (ix3 0 i n)
    = ∑ a : Fin 1024, (∑ j : Fin 8192, v (ix4 0 j ⟨a.val / 128, by omega⟩ ⟨a.val % 128, by omega⟩)
        * Ideal.div (expo x wq k ⟨a.val / 128, by omega⟩ i j) (∑ j : Fin 8192, expo x wq k ⟨a.val / 128, by omega⟩ i j)) * wo (ix2 a n) := by
  have e : ∀ a : Fin 1024, ctx x wq k v (ix3 0 i a) = ∑ j : Fin 8192, v (ix4 0 j ⟨a.val / 128, by omega⟩ ⟨a.val % 128, by omega⟩) * wt x wq k (ix4 0 ⟨a.val / 128, by omega⟩ i j) := fun a => by
    unfold ctx
    generalize wt x wq k = W
    pointwise
  have e' : out x wq k v wo (ix3 0 i n) = ∑ a : Fin 1024, ctx x wq k v (ix3 0 i a) * wo (ix2 a n) := by
    unfold out
    generalize ctx x wq k v = W
    pointwise
  rw [e']
  simp only [e, wt_apply]
end

end Cert.Proof.Ref

end
-- ==== Proof.Attn.lean ====
/- Attention over extended reals: the softmax with its largest score taken away, against the plain quotient of
   weighted sums. -/
module

public import proofs.«01_k».proof.Proof.RefRead

@[expose] public section

noncomputable section

namespace Cert.Proof

open Idealize.ShloMosaic

theorem coe_sum_real {ι : Type} (s : Finset ι) (f : ι → ℝ) : ((∑ i ∈ s, f i : ℝ) : EReal) = ∑ i ∈ s, (f i : EReal) := by
  classical
  refine Finset.induction_on s (by simp) fun a t h ih => ?_
  rw [Finset.sum_insert h, Finset.sum_insert h, EReal.coe_add, ih]

/-- A real factor that is not negative goes into a sum of extended reals. -/
theorem sum_mul_real {ι : Type} (s : Finset ι) (f : ι → EReal) (r : ℝ) (hr : 0 ≤ r) : (∑ i ∈ s, f i) * (r : EReal) = ∑ i ∈ s, f i * (r : EReal) := by
  classical
  refine Finset.induction_on s (by simp) fun a t h ih => ?_
  rw [Finset.sum_insert h, Finset.sum_insert h, mul_comm, EReal.left_distrib_of_nonneg_of_ne_top (EReal.coe_nonneg.2 hr) (EReal.coe_ne_top r), mul_comm, mul_comm (r : EReal), ih]

variable {N : ℕ} (S : Fin N → EReal) (p : Fin N → Prop) [DecidablePred p]

/-- The exponential of a masked score less the largest. -/
def shifted (j : Fin N) : EReal :=
  Ideal.exp ((if p j then S j else ⊥) - Finset.fold max ⊥ (fun j => if p j then S j else ⊥) Finset.univ)

theorem top_real (hS : ∀ j, ∃ r : ℝ, S j = r) (j0 : Fin N) (h0 : p j0) : ∃ μ : ℝ, Finset.fold max ⊥ (fun j => if p j then S j else ⊥) Finset.univ = (μ : EReal) := by
  have hlt : Finset.fold max ⊥ (fun j => if p j then S j else ⊥) Finset.univ < (⊤ : EReal) := by
    refine (Finset.fold_max_lt _).2 ⟨bot_lt_top, fun j _ => ?_⟩
    split_ifs
    · obtain ⟨r, hr⟩ := hS j; rw [hr]; exact EReal.coe_lt_top r
    · exact bot_lt_top
  have hge : S j0 ≤ Finset.fold max ⊥ (fun j => if p j then S j else ⊥) Finset.univ :=
    (Finset.le_fold_max _).2 (.inr ⟨j0, Finset.mem_univ _, by rw [if_pos h0]⟩)
  obtain ⟨r, hr⟩ := hS j0
  have hne : Finset.fold max ⊥ (fun j => if p j then S j else ⊥) Finset.univ ≠ (⊥ : EReal) := fun H => by
    rw [H, hr] at hge
    exact absurd hge (not_le.2 (EReal.bot_lt_coe r))
  exact ⟨_, (EReal.coe_toReal hlt.ne hne).symm⟩

/-- The weights of the softmax, applied to values, are the quotient of the two weighted sums over the keys met. -/
theorem softmax_eq (hS : ∀ j, ∃ r : ℝ, S j = r) (j0 : Fin N) (h0 : p j0) (v : Fin N → EReal) :
    ∑ j, v j * Ideal.div (shifted S p j) (∑ j, shifted S p j)
      = Ideal.div (∑ j, if p j then Ideal.exp (S j) * v j else 0) (∑ j, if p j then Ideal.exp (S j) else 0) := by
  obtain ⟨μ, hμ⟩ := top_real S p hS j0 h0
  choose s hs using hS
  have hsh : ∀ j, shifted S p j = ((if p j then Real.exp (s j) * Real.exp (-μ) else 0 : ℝ) : EReal) := fun j => by
    unfold shifted
    rw [hμ]
    split_ifs with h
    · rw [hs, ← EReal.coe_sub, ← Real.exp_add, ← sub_eq_add_neg]; rfl
    · rw [EReal.bot_sub]; rfl
  have hex : ∀ j, Ideal.exp (S j) = ((Real.exp (s j) : ℝ) : EReal) := fun j => by rw [hs]; rfl
  have hL : 0 < ∑ j, (if p j then Real.exp (s j) else 0) :=
    Finset.sum_pos' (fun j _ => by split_ifs <;> positivity) ⟨j0, Finset.mem_univ _, by rw [if_pos h0]; positivity⟩
  have hsum : ∑ j, shifted S p j = (((∑ j, if p j then Real.exp (s j) else 0) * Real.exp (-μ) : ℝ) : EReal) := by
    simp only [hsh]
    rw [← coe_sum_real, Finset.sum_mul]
    congr 1
    exact Finset.sum_congr rfl fun j _ => by split_ifs <;> simp
  have hden : (∑ j, if p j then Ideal.exp (S j) else 0) = ((∑ j, if p j then Real.exp (s j) else 0 : ℝ) : EReal) := by
    rw [coe_sum_real]
    exact Finset.sum_congr rfl fun j _ => by split_ifs <;> simp [hex]
  rw [hsum, hden, Ideal.div_coe hL.ne', sum_mul_real _ _ _ (by positivity)]
  refine Finset.sum_congr rfl fun j _ => ?_
  rw [Ideal.div_coe (mul_pos hL (Real.exp_pos _)).ne', hsh, ← EReal.coe_mul]
  split_ifs with h
  · rw [hex, mul_comm (v j), mul_right_comm ((Real.exp (s j) : ℝ) : EReal), ← EReal.coe_mul]
    congr 2
    have := Real.exp_pos (-μ)
    field_simp
  · simp

end Cert.Proof

end
-- ==== Proof.KerRead.lean ====
/- The kernel's steps read at an index. -/
module

public import proofs.«01_k».proof.Proof.Attn

@[expose] public section

noncomputable section

namespace Cert.Proof.Ker

open Idealize.ShloMosaic Idealize.ShloMosaic.TcCoe Cert.KernelIdeal Cert.KernelIdeal.Gen Cert.KernelIdeal.Struct

set_option maxRecDepth 16384

/-- The scale of the scores. -/
abbrev scale : EReal := Ideal.ofBits .f32 0x3DB504F3#32

theorem wgt_apply (qc : FVec Ideal S512x1024 .f32) (kvc : FVec Ideal S512x2048 .f32) (h : Fin 8) (r j : Fin 512) :
    wgt qc kvc h (ix2 r j) = Ideal.exp ((∑ e : Fin 128, qc (ix2 r ⟨128 * h.val + e.val, by omega⟩) * kvc (ix2 j ⟨128 * h.val + e.val, by omega⟩)) * scale) := by
  pointwise [wgt]

theorem lnew_apply (p : FVec Ideal S512x512 .f32) (lo : Vec Ideal S1x1x512x128 .f32) (r : Fin 512) (e : Fin 128) :
    lnew p lo (ix4 0 0 r e) = lo (ix4 0 0 r e) + ∑ j : Fin 512, p (ix2 r j) := by
  pointwise [lnew]

theorem onew_apply (p : FVec Ideal S512x512 .f32) (kvc : FVec Ideal S512x2048 .f32) (h : Fin 8) (oo : Vec Ideal S1x512x128 .f32) (r : Fin 512) (e : Fin 128) :
    onew p kvc h oo (ix3 0 r e) = oo (ix3 0 r e) + ∑ j : Fin 512, p (ix2 r j) * kvc (ix2 j ⟨1024 + 128 * h.val + e.val, by omega⟩) := by
  pointwise [onew]

theorem quot_apply (oo : Vec Ideal S1x512x128 .f32) (lo : Vec Ideal S1x1x512x128 .f32) (r : Fin 512) (e : Fin 128) :
    quot oo lo (ix3 0 r e) = Ideal.div (oo (ix3 0 r e)) (lo (ix4 0 0 r e)) := by
  pointwise [quot]

theorem qrow_apply (w : Vec Ideal S1024x1024 .f32) (x : Vec Ideal S1x512x1024 .f32) (r : Fin 512) (n : Fin 1024) :
    qrow w x (ix3 0 r n) = ∑ a : Fin 1024, x (ix3 0 r a) * w (ix2 a n) := by
  pointwise [qrow]

section
variable (Kd Vd : Dev nD → Vec Ideal S2x2x512x1024 .f32) (c : Dev nD) (X : Vec Ideal S4x512x1024 .f32) (W : Vec Ideal S1024x1024 .f32)

theorem xcls_apply (s : Fin 4) (r : Fin 512) (a : Fin 1024) : xcls X s (ix3 0 r a) = X (ix3 s r a) := by
  refine congrArg X (funext fun b => Fin.ext ((unit_val (ix3 0 r a) b).trans ?_))
  match b with
  | ⟨0, _⟩ => exact Nat.add_zero _
  | ⟨1, _⟩ => exact Nat.zero_add _
  | ⟨2, _⟩ => exact Nat.zero_add _

/-- The queries of one class. -/
theorem qry_apply (s : Fin 4) (r : Fin 512) (n : Fin 1024) : qcl (qryOf X W) s (ix2 r n) = ∑ a : Fin 1024, X (ix3 s r a) * W (ix2 a n) := by
  unfold qcl qryOf
  pointwise [qrow_apply, xcls_apply]

theorem blk_key (s : Fin 4) (t : ℕ) (j : Fin 512) (n : Fin 1024) : blkOf Kd Vd c s t (ix2 j ⟨n.val, by omega⟩) = Kd (ord c t) (ix4 (xo s) (yo s) j n) := by
  refine (dif_pos (show n.val < 1024 from n.isLt)).trans (congrArg _ ?_)
  exact (ix4_eq_valueIdx _ _ _ _).symm
theorem blk_val (s : Fin 4) (t : ℕ) (j : Fin 512) (n : Fin 1024) : blkOf Kd Vd c s t (ix2 j ⟨1024 + n.val, by omega⟩) = Vd (ord c t) (ix4 (xo s) (yo s) j n) := by
  refine (dif_neg (show ¬ 1024 + n.val < 1024 by omega)).trans (congrArg _ ?_)
  rw [ix4_eq_valueIdx]
  exact congrArg (ValueIdx.ix4 _ _ _) (Fin.ext (Nat.add_sub_cancel_left _ _))

/-- One weight, before the division. -/
def wgtAt (s : Fin 4) (h : Fin 8) (r : Fin 512) (d : Dev nD) (j : Fin 512) : EReal :=
  Ideal.exp ((∑ e : Fin 128, (∑ a : Fin 1024, X (ix3 s r a) * W (ix2 a ⟨128 * h.val + e.val, by omega⟩)) * Kd d (ix4 (xo s) (yo s) j ⟨128 * h.val + e.val, by omega⟩)) * scale)

theorem wgtOf_apply (s : Fin 4) (h : Fin 8) (t : ℕ) (r j : Fin 512) : wgtOf Kd Vd c (qryOf X W) s h t (ix2 r j) = wgtAt Kd X W s h r (ord c t) j := by
  unfold wgtOf wgtAt
  rw [wgt_apply]
  simp only [qry_apply]
  refine congrArg Ideal.exp (congrArg (· * scale) (Finset.sum_congr rfl fun e _ => congrArg _ ?_))
  exact blk_key Kd Vd c s t j ⟨128 * h.val + e.val, by omega⟩

theorem lf_apply (s : Fin 4) (h : Fin 8) (r : Fin 512) (e : Fin 128) (t : ℕ) :
    lf Kd Vd c (qryOf X W) s h t (ix4 0 0 r e) = ∑ i ∈ Finset.range t, ∑ j : Fin 512, wgtAt Kd X W s h r (ord c i) j := by
  induction t with
  | zero => exact Ideal.ofBits_zero_f32
  | succ t ih =>
    show lnew _ _ _ = _
    rw [lnew_apply, ih, Finset.sum_range_succ]
    simp only [wgtOf_apply]

theorem of_apply (s : Fin 4) (h : Fin 8) (r : Fin 512) (e : Fin 128) (t : ℕ) :
    of Kd Vd c (qryOf X W) s h t (ix3 0 r e)
      = ∑ i ∈ Finset.range t, ∑ j : Fin 512, wgtAt Kd X W s h r (ord c i) j * Vd (ord c i) (ix4 (xo s) (yo s) j ⟨128 * h.val + e.val, by omega⟩) := by
  induction t with
  | zero => exact Ideal.ofBits_zero_f32
  | succ t ih =>
    show onew _ _ _ _ _ = _
    rw [onew_apply, ih, Finset.sum_range_succ]
    simp only [wgtOf_apply]
    refine congrArg _ (Finset.sum_congr rfl fun j _ => congrArg _ ?_)
    refine Eq.trans (congrArg _ ?_) (blk_val Kd Vd c s t j ⟨128 * h.val + e.val, by omega⟩)
    exact congrArg (ix2 j) (Fin.ext (Nat.add_assoc _ _ _))

/-- The four meetings are the four devices. -/
theorem sum_ord (f : Dev nD → EReal) : ∑ i ∈ Finset.range 4, f (ord c i) = ∑ d : Dev nD, f d := by
  have h : (∑ d : Dev nD, f d) = f 0 + f 1 + f 2 + f 3 := Fin.sum_univ_four f
  have h' : ∑ i ∈ Finset.range 4, f (ord c i) = f c + f (lft c) + f (rgt c) + f (opp c) := by
    simp only [Finset.sum_range_succ, Finset.sum_range_zero, zero_add]; rfl
  rw [h, h']
  have key : ∀ c : Dev nD, (c = 0 ∧ lft c = 3 ∧ rgt c = 1 ∧ opp c = 2) ∨ (c = 1 ∧ lft c = 0 ∧ rgt c = 2 ∧ opp c = 3)
      ∨ (c = 2 ∧ lft c = 1 ∧ rgt c = 3 ∧ opp c = 0) ∨ (c = 3 ∧ lft c = 2 ∧ rgt c = 0 ∧ opp c = 1) := by decide
  rcases key c with ⟨h0, h1, h2, h3⟩ | ⟨h0, h1, h2, h3⟩ | ⟨h0, h1, h2, h3⟩ | ⟨h0, h1, h2, h3⟩ <;> rw [h1, h2, h3, h0] <;> ac_rfl

/-- The device's result at a row and a column. -/
theorem o_apply (s : Fin 4) (r : Fin 512) (n : Fin 1024) : oFin Kd Vd c (qryOf X W) (ix3 s r n)
    = Ideal.div (∑ d : Dev nD, ∑ j : Fin 512, wgtAt Kd X W s ⟨n.val / 128, by omega⟩ r d j * Vd d (ix4 (xo s) (yo s) j n))
        (∑ d : Dev nD, ∑ j : Fin 512, wgtAt Kd X W s ⟨n.val / 128, by omega⟩ r d j) := by
  have e0 : oFin Kd Vd c (qryOf X W) (ix3 s r n) = quot (of Kd Vd c (qryOf X W) s ⟨n.val / 128, by omega⟩ 4) (lf Kd Vd c (qryOf X W) s ⟨n.val / 128, by omega⟩ 4)
      (ix3 0 r ⟨n.val % 128, by omega⟩) := by rw [ix3_eq_valueIdx 0 r]; rfl
  rw [e0, quot_apply, lf_apply, of_apply, sum_ord c fun d => ∑ j : Fin 512, wgtAt Kd X W s ⟨n.val / 128, by omega⟩ r d j,
    sum_ord c fun d => ∑ j : Fin 512, wgtAt Kd X W s ⟨n.val / 128, by omega⟩ r d j * Vd d (ix4 (xo s) (yo s) j ⟨128 * (n.val / 128) + n.val % 128, by omega⟩)]
  have en : (⟨128 * (n.val / 128) + n.val % 128, by omega⟩ : Fin 1024) = n := Fin.ext (Nat.div_add_mod _ _)
  rw [en]

end
end Cert.Proof.Ker

end
-- ==== Proof.HostRead.lean ====
/- The host's rearrangements around the call, read at an index. -/
module

public import proofs.«01_k».proof.Proof.KerRead

@[expose] public section

noncomputable section

namespace Cert.Proof.Ker

open Idealize.ShloMosaic Idealize.ShloMosaic.TcCoe Idealize.ShloMosaic.StableHlo Cert.KernelIdeal Cert.KernelIdeal.Gen Cert.KernelIdeal.Struct

set_option maxRecDepth 16384

variable (m : (ℓ : Loc nD τ sig) → Buf (Elt Ideal) ℓ) (c : Dev nD)

/-- Rows of one class brought together. -/
def sorted (x : FVec Ideal S2048x1024 .f32) : FVec Ideal S4x512x1024 .f32 :=
  shapeCast S4x512x1024 (transpose S4x8x64x1024 [1, 0, 2, 3] (shapeCast S8x4x64x1024 x shapeCasts_S2048x1024_S8x4x64x1024 : FVec Ideal S8x4x64x1024 .f32)
    transposes_S8x4x64x1024_S4x8x64x1024_1_0_2_3) shapeCasts_S4x8x64x1024_S4x512x1024

/-- The row that the `r`-th row of a class comes from. -/
def row (s : Fin 4) (r : Fin 512) : Fin 2048 := ⟨r.val / 64 * 256 + s.val * 64 + r.val % 64, by omega⟩

theorem sorted_apply (x : FVec Ideal S2048x1024 .f32) (s : Fin 4) (r : Fin 512) (a : Fin 1024) : sorted x (ix3 s r a) = x (ix2 (row s r) a) := by
  pointwise [sorted]
  rfl

/-- A whole array of keys or values, cut by class. -/
def keyed (x : FVec Ideal S1x2048x8x128 .f32) : FVec Ideal S2x2x512x1024 .f32 :=
  shapeCast S2x2x512x1024 (sorted (shapeCast S2048x1024 (shapeCast S2048x8x128 x shapeCasts_S1x2048x8x128_S2048x8x128 : FVec Ideal S2048x8x128 .f32)
    shapeCasts_S2048x8x128_S2048x1024)) shapeCasts_S4x512x1024_S2x2x512x1024

theorem keyed_apply (x : FVec Ideal S1x2048x8x128 .f32) (s : Fin 4) (j : Fin 512) (n : Fin 1024) :
    keyed x (ix4 (xo s) (yo s) j n) = x (ix4 0 (row s j) ⟨n.val / 128, by omega⟩ ⟨n.val % 128, by omega⟩) := by
  have e : keyed x (ix4 (xo s) (yo s) j n) = sorted (shapeCast S2048x1024 (shapeCast S2048x8x128 x shapeCasts_S1x2048x8x128_S2048x8x128 : FVec Ideal S2048x8x128 .f32)
    shapeCasts_S2048x8x128_S2048x1024) (ix3 ⟨(xo s).val * 2 + (yo s).val, by have := (xo s).isLt; have := (yo s).isLt; omega⟩ j n) := by
    unfold keyed
    generalize sorted _ = R
    pointwise
  have es : (⟨(xo s).val * 2 + (yo s).val, by have := (xo s).isLt; have := (yo s).isLt; omega⟩ : Fin 4) = s :=
    Fin.ext (show s.val / 2 * 2 + s.val % 2 = s.val by omega)
  rw [e, es, sorted_apply]
  pointwise

theorem xs_eq : V m c main_v4 = sorted (shapeCast S2048x1024 (m ((c : Thread nD τ).loc main_arg0)) shapeCasts_S1x2048x1024_S2048x1024) := by
  unfold V V0
  simp only [List.flatten_cons, List.flatten_nil, List.append_nil, hostOps0]
  after_results_simp
  rfl
theorem flat_apply (x : FVec Ideal S1x2048x1024 .f32) (i : Fin 2048) (a : Fin 1024) :
    shapeCast S2048x1024 x shapeCasts_S1x2048x1024_S2048x1024 (ix2 i a) = x (ix3 0 i a) := by pointwise
theorem xs_apply (s : Fin 4) (r : Fin 512) (a : Fin 1024) : Xd m c (ix3 s r a) = m ((c : Thread nD τ).loc main_arg0) (ix3 0 (row s r) a) := by
  exact (congrFun (xs_eq m c) _).trans ((sorted_apply _ s r a).trans (flat_apply _ _ _))
theorem wq_eq : V m c main_arg1 = m ((c : Thread nD τ).loc main_arg1) := by
  unfold V V0
  simp only [List.flatten_cons, List.flatten_nil, List.append_nil, hostOps0]
  after_results_simp
theorem wo_eq : V m c main_arg4 = m ((c : Thread nD τ).loc main_arg4) := by
  unfold V V0
  simp only [List.flatten_cons, List.flatten_nil, List.append_nil, hostOps0]
  after_results_simp
theorem k_eq : Kd m c = keyed (m ((c : Thread nD τ).loc main_arg2)) := by
  show V m c main_v10 = _
  unfold V V0
  simp only [List.flatten_cons, List.flatten_nil, List.append_nil, hostOps0]
  after_results_simp
  rfl
theorem v_eq : Vd m c = keyed (m ((c : Thread nD τ).loc main_arg3)) := by
  show V m c main_v16 = _
  unfold V V0
  simp only [List.flatten_cons, List.flatten_nil, List.append_nil, hostOps0]
  after_results_simp
  rfl

/-- The class and the place in it of a row. -/
def cls (i : Fin 2048) : Fin 4 := ⟨i.val / 64 % 4, by omega⟩
def place (i : Fin 2048) : Fin 512 := ⟨i.val / 256 * 64 + i.val % 64, by omega⟩

/-- Rows put back in their places. -/
def back (o : FVec Ideal S4x512x1024 .f32) : FVec Ideal S2048x1024 .f32 :=
  shapeCast S2048x1024 (transpose S8x4x64x1024 [1, 0, 2, 3] (shapeCast S4x8x64x1024 o shapeCasts_S4x512x1024_S4x8x64x1024 : FVec Ideal S4x8x64x1024 .f32)
    transposes_S4x8x64x1024_S8x4x64x1024_1_0_2_3) shapeCasts_S8x4x64x1024_S2048x1024

theorem back_apply (o : FVec Ideal S4x512x1024 .f32) (i : Fin 2048) (n : Fin 1024) : back o (ix2 i n) = o (ix3 (cls i) (place i) n) := by
  pointwise [back]
  rfl

/-- The device's result. -/
def res (o : FVec Ideal S4x512x1024 .f32) (w : FVec Ideal S1024x1024 .f32) : FVec Ideal S1x2048x1024 .f32 :=
  broadcastInDim S1x2048x1024 ![1, 2] bcast_S2048x1024_S1x2048x1024_1_2 (Host.dotGeneral dot_S2048x1024_S1024x1024_S2048x1024_1_0_0_1_n_n none (back o) w : FVec Ideal S2048x1024 .f32)

theorem res_apply (o : FVec Ideal S4x512x1024 .f32) (w : FVec Ideal S1024x1024 .f32) (i : Fin 2048) (n : Fin 1024) :
    res o w (ix3 0 i n) = ∑ a : Fin 1024, o (ix3 (cls i) (place i) a) * w (ix2 a n) := by
  pointwise [res, back_apply]

theorem V2_eq : V2 m c (Proc.devRef .tc main_v22) = res (oEnd m c) (m ((c : Thread nD τ).loc main_arg4)) := by
  have h : V1 m c (Proc.devRef .tc main_arg4) = m ((c : Thread nD τ).loc main_arg4) :=
    (V1_ne m c _ (by decide) (by decide)).trans (wo_eq m c)
  unfold V2
  simp only [hostOps1]
  after_results_simp
  rw [V1_o, h]
  rfl

end Cert.Proof.Ker

end
-- ==== Proof.Finite.lean ====
/- What the precondition says: the inputs that the weights are computed from are real numbers. -/
module

public import proofs.«01_k».proof.Proof.HostRead
public import proofs.«01_k».proof.Defs
public import Idealize.ShloMosaic.Lib.ReduceAll

@[expose] public section

noncomputable section

namespace Cert.Proof

open Idealize.ShloMosaic Idealize.ShloMosaic.TcCoe

theorem facts_k : Cert.Pre_finite_KernelIdeal.Facts :=
  ⟨by decide, by decide, by decide, by decide, by decide, by decide, by decide⟩
theorem facts_r : Cert.Pre_finite_ReferenceIdeal.Facts :=
  ⟨by decide, by decide, by decide, by decide, by decide, by decide, by decide⟩

/-- An extended real whose absolute value lies below `⊤` is a real number. -/
theorem real_of_lt {x : EReal} (h : Ideal.cmp .olt (max x (-x)) (Ideal.ofBits .f32 0x7F800000#32) = 1#1) :
    ∃ r : ℝ, x = r := by
  induction x with
  | bot => exact absurd h (by simp [Ideal.cmp, Ideal.ofBits, Ideal.ieee])
  | top => exact absurd h (by simp [Ideal.cmp, Ideal.ofBits, Ideal.ieee])
  | coe r => exact ⟨r, rfl⟩

theorem real_inputs {m : (ℓ : Loc Cert.KernelIdeal.nD Cert.KernelIdeal.τ Cert.KernelIdeal.sig) → Buf (Elt Ideal) ℓ}
    (h : Cert.Pre_KernelIdeal_finite_KernelIdeal (hPre_finite_KernelIdeal := facts_k) m) (c : Dev Cert.KernelIdeal.nD) :
    (∀ i, ∃ r : ℝ, m ((c.tc : Thread _ _).loc Cert.KernelIdeal.main_arg0) i = (r : EReal))
    ∧ (∀ i, ∃ r : ℝ, m ((c.tc : Thread _ _).loc Cert.KernelIdeal.main_arg1) i = (r : EReal))
    ∧ ∀ i, ∃ r : ℝ, m ((c.tc : Thread _ _).loc Cert.KernelIdeal.main_arg2) i = (r : EReal) := by
  letI := facts_k
  haveI : Subsingleton Cert.Pre_finite_KernelIdeal.S_.Idx := ⟨fun a b => funext fun x => x.elim0⟩
  have e := congrFun (h c) ix0
  obtain ⟨e, e2⟩ := IntOp.andi_eq_one.1 e
  obtain ⟨e0, e1⟩ := IntOp.andi_eq_one.1 e
  exact ⟨fun i => real_of_lt (Host.reduce_andi_all _ _ _ _ _ e0 i), fun i => real_of_lt (Host.reduce_andi_all _ _ _ _ _ e1 i),
    fun i => real_of_lt (Host.reduce_andi_all _ _ _ _ _ e2 i)⟩

/-! Sums and products of real numbers are real. -/

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {ι : Type} (s : Finset ι) {f : ι → EReal} (hf : ∀ i, ∃ r : ℝ, f i = r) : ∃ r : ℝ, ∑ i ∈ s, f i = r := by
  choose g hg using hf
  exact ⟨∑ i ∈ s, g i, (Finset.sum_congr rfl fun i _ => hg i).trans (coe_sum_real s g).symm⟩

theorem real_score {x : FVec Ideal Cert.ReferenceIdeal.S1x8192x1024 .f32} {wq : FVec Ideal Cert.ReferenceIdeal.S1024x1024 .f32}
    {k : FVec Ideal Cert.ReferenceIdeal.S1x8192x8x128 .f32} (hx : ∀ i, ∃ r : ℝ, x i = (r : EReal)) (hw : ∀ i, ∃ r : ℝ, wq i = (r : EReal))
    (hk : ∀ i, ∃ r : ℝ, k i = (r : EReal)) (h : Fin 8) (i j : Fin 8192) : ∃ r : ℝ, Ref.score x wq k h i j = (r : EReal) := by
  refine real_mul (real_sum _ fun e => real_mul (real_sum _ fun a => real_mul (hx _) (hw _)) (hk _)) ?_
  simp only [Ideal.ofBits, Ideal.ieee]
  norm_num
  exact ⟨_, rfl⟩

end Cert.Proof

end
-- ==== Proof.Meet.lean ====
/- The rows the devices compute are the rows of the reference. -/
module

public import proofs.«01_k».proof.Proof.Finite

@[expose] public section

noncomputable section

namespace Cert.Proof

open Idealize.ShloMosaic Idealize.ShloMosaic.TcCoe Cert.KernelIdeal Cert.KernelIdeal.Gen Cert.KernelIdeal.Struct Cert.Proof.Ker

set_option maxRecDepth 16384

/-- Row `i` of device `c`, among all rows. -/
def glob (c : Fin 4) (i : Fin 2048) : Fin 8192 := ⟨c.val * 2048 + i.val, by omega⟩

theorem glob_cls (c : Fin 4) (i : Fin 2048) : (glob c i).val / 64 % 4 = (cls i).val := by
  show (c.val * 2048 + i.val) / 64 % 4 = i.val / 64 % 4
  omega

theorem row_place (i : Fin 2048) : row (cls i) (place i) = i :=
  Fin.ext (show (i.val / 256 * 64 + i.val % 64) / 64 * 256 + i.val / 64 % 4 * 64 + (i.val / 256 * 64 + i.val % 64) % 64 = i.val by omega)

theorem row_cls (s : Fin 4) (r : Fin 512) : (cls (row s r)) = s :=
  Fin.ext (show (r.val / 64 * 256 + s.val * 64 + r.val % 64) / 64 % 4 = s.val by omega)

/-- A sum over the rows of one class is a sum over devices of the sums over their rows of that class. -/
theorem sum_class (s : Fin 4) (f : Fin 8192 → EReal) :
    (∑ J : Fin 8192, if s.val = J.val / 64 % 4 then f J else 0) = ∑ d : Fin 4, ∑ j : Fin 512, f (glob d (row s j)) := by
  rw [← Finset.sum_filter, ← Fintype.sum_prod_type' (f := fun (d : Fin 4) (j : Fin 512) => f (glob d (row s j)))]
  symm
  refine Finset.sum_bij' (fun q _ => glob q.1 (row s q.2))
    (fun J _ => ((⟨J.val / 2048, by omega⟩ : Fin 4), (place ⟨J.val % 2048, by omega⟩ : Fin 512))) ?_ ?_ ?_ ?_ ?_
  · intro q _
    refine Finset.mem_filter.2 ⟨Finset.mem_univ _, ?_⟩
    rw [glob_cls, row_cls]
  · intro J _
    exact Finset.mem_univ _
  · rintro ⟨d, j⟩ _
    refine Prod.ext (Fin.ext ?_) (Fin.ext ?_)
    · show (d.val * 2048 + (j.val / 64 * 256 + s.val * 64 + j.val % 64)) / 2048 = d.val
      omega
    · show (d.val * 2048 + (j.val / 64 * 256 + s.val * 64 + j.val % 64)) % 2048 / 256 * 64
        + (d.val * 2048 + (j.val / 64 * 256 + s.val * 64 + j.val % 64)) % 2048 % 64 = j.val
      omega
  · intro J hJ
    have hs := (Finset.mem_filter.1 hJ).2
    refine Fin.ext ?_
    show J.val / 2048 * 2048 + ((J.val % 2048 / 256 * 64 + J.val % 2048 % 64) / 64 * 256 + s.val * 64 + (J.val % 2048 / 256 * 64 + J.val % 2048 % 64) % 64) = J.val
    omega
  · intro q _
    rfl

/-! A device's part of an array, read at an index. -/

theorem part_rows (A : (⟨3, ![1, 8192, 1024]⟩ : Shape).Idx → EReal) (c : Fin 4) (i : Fin 2048) (a : Fin 1024) :
    (Layout.block ⟨3, ![1, 2048, 1024]⟩ ⟨3, ![1, 8192, 1024]⟩ 1 4 c A) (ix3 0 i a) = A (ix3 0 (glob c i) a) := by
  rw [Layout.block_apply]
  refine congrArg A (funext fun b => ?_)
  fin_cases b <;> rfl

theorem part_heads (A : (⟨4, ![1, 8192, 8, 128]⟩ : Shape).Idx → EReal) (c : Fin 4) (i : Fin 2048) (h : Fin 8) (e : Fin 128) :
    (Layout.block ⟨4, ![1, 2048, 8, 128]⟩ ⟨4, ![1, 8192, 8, 128]⟩ 1 4 c A) (ix4 0 i h e) = A (ix4 0 (glob c i) h e) := by
  rw [Layout.block_apply]
  refine congrArg A (funext fun b => ?_)
  fin_cases b <;> rfl

variable (A0 : FVec Ideal Cert.ReferenceIdeal.S1x8192x1024 .f32) (A1 : FVec Ideal Cert.ReferenceIdeal.S1024x1024 .f32)
  (A2 A3 : FVec Ideal Cert.ReferenceIdeal.S1x8192x8x128 .f32) (A4 : FVec Ideal Cert.ReferenceIdeal.S1024x1024 .f32)

/-- A weight of the kernel is the exponential of a score of the reference. -/
theorem wgt_score (Kd : Dev nD → FVec Ideal S2x2x512x1024 .f32) (X : FVec Ideal S4x512x1024 .f32) (c : Fin 4) (i : Fin 2048)
    (hX : ∀ a, X (ix3 (cls i) (place i) a) = A0 (ix3 0 (glob c i) a))
    (hK : ∀ d j (h : Fin 8) (e : Fin 128), Kd d (ix4 (xo (cls i)) (yo (cls i)) j ⟨128 * h.val + e.val, by omega⟩) = A2 (ix4 0 (glob d (row (cls i) j)) h e))
    (h : Fin 8) (d : Dev nD) (j : Fin 512) :
    wgtAt Kd X A1 (cls i) h (place i) d j = Ideal.exp (Ref.score A0 A1 A2 h (glob c i) (glob d (row (cls i) j))) := by
  unfold wgtAt Ref.score scale
  refine congrArg Ideal.exp (congrArg (· * _) (Finset.sum_congr rfl fun e _ => ?_))
  rw [hK]
  refine congrArg (· * _) (Finset.sum_congr rfl fun a _ => ?_)
  rw [hX]
  refine congrArg (fun n => _ * A1 (ix2 a n)) (Fin.ext ?_)
  show 128 * h.val + e.val = h.val * 128 + e.val
  omega

/-- A row of attention on a device is that row of the reference's. -/
theorem row_meets (h0 : ∀ i, ∃ r : ℝ, A0 i = (r : EReal)) (h1 : ∀ i, ∃ r : ℝ, A1 i = (r : EReal)) (h2 : ∀ i, ∃ r : ℝ, A2 i = (r : EReal))
    (Kd Vd : Dev nD → FVec Ideal S2x2x512x1024 .f32) (X : FVec Ideal S4x512x1024 .f32) (c : Dev nD) (i : Fin 2048)
    (hX : ∀ a, X (ix3 (cls i) (place i) a) = A0 (ix3 0 (glob c i) a))
    (hK : ∀ d j (h : Fin 8) (e : Fin 128), Kd d (ix4 (xo (cls i)) (yo (cls i)) j ⟨128 * h.val + e.val, by omega⟩) = A2 (ix4 0 (glob d (row (cls i) j)) h e))
    (a : Fin 1024)
    (hV : ∀ d j, Vd d (ix4 (xo (cls i)) (yo (cls i)) j a) = A3 (ix4 0 (glob d (row (cls i) j)) ⟨a.val / 128, by omega⟩ ⟨a.val % 128, by omega⟩)) :
    oFin (F := Ideal) Kd Vd c (qryOf X A1) (ix3 (cls i) (place i) a)
      = ∑ j : Fin 8192, A3 (ix4 0 j ⟨a.val / 128, by omega⟩ ⟨a.val % 128, by omega⟩)
        * Ideal.div (Ref.expo A0 A1 A2 ⟨a.val / 128, by omega⟩ (glob c i) j) (∑ j : Fin 8192, Ref.expo A0 A1 A2 ⟨a.val / 128, by omega⟩ (glob c i) j) := by
  rw [o_apply]
  refine Eq.trans ?_ (softmax_eq (fun j => Ref.score A0 A1 A2 ⟨a.val / 128, by omega⟩ (glob c i) j)
    (fun j => (glob c i).val / 64 % 4 = j.val / 64 % 4) (fun j => real_score h0 h1 h2 _ _ j) (glob c i) rfl
    (fun j => A3 (ix4 0 j ⟨a.val / 128, by omega⟩ ⟨a.val % 128, by omega⟩))).symm
  simp only [glob_cls]
  rw [sum_class (cls i) (fun J => Ideal.exp (Ref.score A0 A1 A2 ⟨a.val / 128, by omega⟩ (glob c i) J) * A3 (ix4 0 J ⟨a.val / 128, by omega⟩ ⟨a.val % 128, by omega⟩)),
    sum_class (cls i) (fun J => Ideal.exp (Ref.score A0 A1 A2 ⟨a.val / 128, by omega⟩ (glob c i) J))]
  refine congrArg₂ Ideal.div (Finset.sum_congr rfl fun d _ => Finset.sum_congr rfl fun j _ => ?_)
    (Finset.sum_congr rfl fun d _ => Finset.sum_congr rfl fun j _ => wgt_score A0 A1 A2 Kd X c i hX hK _ d j)
  rw [hV, wgt_score A0 A1 A2 Kd X c i hX hK]

end Cert.Proof

end
-- ==== Proof.Algebraic.lean ====
/- The kernel's result is the reference's, cut into the devices' parts. -/
module

public import proofs.«01_k».proof.Proof.Meet

@[expose] public section

noncomputable section

namespace Cert.Proof

open Idealize.ShloMosaic Idealize.ShloMosaic.TcCoe Cert.KernelIdeal Cert.KernelIdeal.Gen Cert.KernelIdeal.Struct Cert.Proof.Ker

set_option maxRecDepth 16384

variable (A0 : FVec Ideal Cert.ReferenceIdeal.S1x8192x1024 .f32) (A1 : FVec Ideal Cert.ReferenceIdeal.S1024x1024 .f32)
  (A2 A3 : FVec Ideal Cert.ReferenceIdeal.S1x8192x8x128 .f32) (A4 : FVec Ideal Cert.ReferenceIdeal.S1024x1024 .f32)

/-- Keys (or values) of a device by class, read from the whole array. -/
theorem keyed_part (A : FVec Ideal Cert.ReferenceIdeal.S1x8192x8x128 .f32) (d : Fin 4) (s : Fin 4) (j : Fin 512) (n : Fin 1024) :
    keyed (Layout.block ⟨4, ![1, 2048, 8, 128]⟩ ⟨4, ![1, 8192, 8, 128]⟩ 1 4 d A) (ix4 (xo s) (yo s) j n)
      = A (ix4 0 (glob d (row s j)) ⟨n.val / 128, by omega⟩ ⟨n.val % 128, by omega⟩) :=
  (keyed_apply _ s j n).trans (part_heads A d (row s j) _ _)

/-- The arguments of the devices are the parts of the whole arrays. -/
structure Parts (m : (ℓ : Loc nD τ sig) → Buf (Elt Ideal) ℓ) : Prop where
  a0 : ∀ c : Dev nD, m ((c : Thread nD τ).loc main_arg0) = Layout.block ⟨3, ![1, 2048, 1024]⟩ ⟨3, ![1, 8192, 1024]⟩ 1 4 c A0
  a1 : ∀ c : Dev nD, m ((c : Thread nD τ).loc main_arg1) = A1
  a2 : ∀ c : Dev nD, m ((c : Thread nD τ).loc main_arg2) = Layout.block ⟨4, ![1, 2048, 8, 128]⟩ ⟨4, ![1, 8192, 8, 128]⟩ 1 4 c A2
  a3 : ∀ c : Dev nD, m ((c : Thread nD τ).loc main_arg3) = Layout.block ⟨4, ![1, 2048, 8, 128]⟩ ⟨4, ![1, 8192, 8, 128]⟩ 1 4 c A3
  a4 : ∀ c : Dev nD, m ((c : Thread nD τ).loc main_arg4) = A4

variable {A0 A1 A2 A3 A4}

theorem result_part {m : (ℓ : Loc nD τ sig) → Buf (Elt Ideal) ℓ} (P : Parts A0 A1 A2 A3 A4 m)
    (h0 : ∀ i, ∃ r : ℝ, A0 i = (r : EReal)) (h1 : ∀ i, ∃ r : ℝ, A1 i = (r : EReal)) (h2 : ∀ i, ∃ r : ℝ, A2 i = (r : EReal)) (c : Dev nD) :
    V2 m c (Proc.devRef .tc main_v22)
      = Layout.block ⟨3, ![1, 2048, 1024]⟩ ⟨3, ![1, 8192, 1024]⟩ 1 4 c (Ref.out A0 A1 A2 A3 A4) := by
  refine (V2_eq m c).trans ?_
  rw [P.a4 c]
  have hX : ∀ (i : Fin 2048) (a : Fin 1024), Xd m c (ix3 (cls i) (place i) a) = A0 (ix3 0 (glob c i) a) := fun i a =>
    (xs_apply m c _ _ a).trans ((congrFun (P.a0 c) _).trans ((part_rows A0 c _ a).trans (by rw [row_place])))
  have hW : Wd m c = A1 := (wq_eq m c).trans (P.a1 c)
  have hK : ∀ (d : Dev nD) (s : Fin 4) (j : Fin 512) (n : Fin 1024),
      Kd m d (ix4 (xo s) (yo s) j n) = A2 (ix4 0 (glob d (row s j)) ⟨n.val / 128, by omega⟩ ⟨n.val % 128, by omega⟩) := fun d s j n =>
    (congrFun (k_eq m d) _).trans ((congrArg (fun A => keyed A (ix4 (xo s) (yo s) j n)) (P.a2 d)).trans (keyed_part A2 d s j n))
  have hV : ∀ (d : Dev nD) (s : Fin 4) (j : Fin 512) (n : Fin 1024),
      Vd m d (ix4 (xo s) (yo s) j n) = A3 (ix4 0 (glob d (row s j)) ⟨n.val / 128, by omega⟩ ⟨n.val % 128, by omega⟩) := fun d s j n =>
    (congrFun (v_eq m d) _).trans ((congrArg (fun A => keyed A (ix4 (xo s) (yo s) j n)) (P.a3 d)).trans (keyed_part A3 d s j n))
  unfold oEnd
  rw [hW]
  generalize Xd m c = X at hX ⊢
  generalize Kd m = K at hK ⊢
  generalize Vd m = W at hV ⊢
  funext q
  obtain ⟨z, i, n, rfl⟩ : ∃ z i n, q = ix3 z i n := ⟨q 0, q 1, q 2, eq_ix3 q⟩
  have hz : z = 0 := Subsingleton.elim _ _
  subst hz
  rw [res_apply, part_rows, Ref.out_apply]
  refine Finset.sum_congr rfl fun a _ => congrArg (· * _) ?_
  refine row_meets A0 A1 A2 A3 h0 h1 h2 K W X c i (hX i) (fun d j h e => (hK d (cls i) j _).trans ?_) a (fun d j => hV d (cls i) j a)
  congr 2
  · exact Fin.ext (show (128 * h.val + e.val) / 128 = h.val by omega)
  · exact Fin.ext (show (128 * h.val + e.val) % 128 = e.val by omega)

/-- Every row of the whole array is some device's. -/
theorem glob_surj (I : Fin 8192) : ∃ c i, glob c i = I :=
  ⟨⟨I.val / 2048, by omega⟩, ⟨I.val % 2048, by omega⟩, Fin.ext (show I.val / 2048 * 2048 + I.val % 2048 = I.val by omega)⟩

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_k) := by
  intro m g m' g' hf hl
  have P : Parts _ _ _ _ _ m := ⟨fun c => (hl c).1, fun c => (hl c).2.1, fun c => (hl c).2.2.1, fun c => (hl c).2.2.2.1, fun c => (hl c).2.2.2.2⟩
  refine ⟨Cert.ReferenceIdeal.Value.res_out0 m' 0, (θ_run Cert.KernelIdeal.defs _ _).mono (fun r h c => ⟨((h.1 c).2).trans ?_, (h.1 c).1 _ (by decide), (h.1 c).1 _ (by decide),
    (h.1 c).1 _ (by decide), (h.1 c).1 _ (by decide), (h.1 c).1 _ (by decide)⟩) (Cert.KernelIdeal.Struct.run_main (F := Ideal) m g),
    (θ_run Cert.ReferenceIdeal.defs _ _).mono (fun r h => h 0) (Cert.ReferenceIdeal.Value.run (F := Ideal) m' g')⟩
  rw [Ref.res_eq]
  refine result_part P ?_ ?_ ?_ c
  · intro q
    obtain ⟨z, I, a, rfl⟩ : ∃ z I a, q = ix3 z I a := ⟨q 0, q 1, q 2, eq_ix3 q⟩
    obtain ⟨d, i, rfl⟩ := glob_surj I
    have hz : z = 0 := Subsingleton.elim _ _
    subst hz
    obtain ⟨t, ht⟩ := (real_inputs hf d).1 (ix3 0 i a)
    exact ⟨t, (part_rows _ d i a).symm.trans ((congrFun (P.a0 d) _).symm.trans ht)⟩
  · intro q
    obtain ⟨t, ht⟩ := (real_inputs hf 0).2.1 q
    exact ⟨t, (congrFun (P.a1 0) _).symm.trans ht⟩
  · intro q
    obtain ⟨z, I, h, e, rfl⟩ : ∃ z I h e, q = ix4 z I h e := ⟨q 0, q 1, q 2, q 3, eq_ix4 q⟩
    obtain ⟨d, i, rfl⟩ := glob_surj I
    have hz : z = 0 := Subsingleton.elim _ _
    subst hz
    obtain ⟨t, ht⟩ := (real_inputs hf d).2.2 (ix4 0 i h e)
    exact ⟨t, (part_heads _ d i h e).symm.trans ((congrFun (P.a2 d) _).symm.trans ht)⟩

end Cert.Proof

end
-- ==== Proof.lean ====
/- The claims, from the runs of the three programs. -/
module

public import proofs.«01_k».proof.Defs
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, facts_k, facts_r,
  frame_p, frame_pi, fun m g _ => frame_pi m g trivial, frame_ri, fun m g _ => frame_ri m g trivial, trivial, algebraic⟩

end Cert.Proof

end
